-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_experts_in_range : Cert.Pre_experts_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_experts_in_range.lean ====
abbrev S288 : Shape := ⟨1, ![288]⟩
abbrev S1 : Shape := ⟨1, ![1]⟩
abbrev S147456x512 : Shape := ⟨2, ![147456, 512]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : IVec S147456x512 32) (main_arg3 : FVec F S4x32x1024x2048 .f32) (main_arg4 : FVec F S4x32x2048 .f32) (main_arg5 : FVec F S4x32x1024x1024 .f32) (main_arg6 : FVec F S4x32x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Kernel.lean ====
abbrev S8x4096x1280 : Shape := ⟨3, ![8, 4096, 1280]⟩
abbrev S16 : Shape := ⟨1, ![16]⟩
abbrev S32x16 : Shape := ⟨2, ![32, 16]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x16 : Shape := ⟨3, ![128, 384, 16]⟩
abbrev S16x128x384 : Shape := ⟨3, ![16, 128, 384]⟩
abbrev S32768x1280 : Shape := ⟨2, ![32768, 1280]⟩
abbrev S2x1024x384 : Shape := ⟨3, ![2, 1024, 384]⟩
abbrev S16x128 : Shape := ⟨2, ![16, 128]⟩
abbrev S2048 : Shape := ⟨1, ![2048]⟩
abbrev S2x1024x1 : Shape := ⟨3, ![2, 1024, 1]⟩
abbrev S32768x1024 : Shape := ⟨2, ![32768, 1024]⟩
abbrev S128x1024 : Shape := ⟨2, ![128, 1024]⟩
abbrev S128x128 : Shape := ⟨2, ![128, 128]⟩
abbrev S384x128 : Shape := ⟨2, ![384, 128]⟩
abbrev S128x64 : Shape := ⟨2, ![128, 64]⟩
abbrev S1024x64 : Shape := ⟨2, ![1024, 64]⟩
abbrev S384x64 : Shape := ⟨2, ![384, 64]⟩
abbrev S1024x384 : Shape := ⟨2, ![1024, 384]⟩
abbrev S1x1024x384 : Shape := ⟨3, ![1, 1024, 384]⟩
abbrev S1x1024x1 : Shape := ⟨3, ![1, 1024, 1]⟩
abbrev S1024x1 : Shape := ⟨2, ![1024, 1]⟩
abbrev S1024 : Shape := ⟨1, ![1024]⟩

abbrev nBuf : Space → Nat
  | .hbm => 77
  | .vmem => 18
  | .smem => 0
  | _ => 0

abbrev bufTy : (tb : Table) → Fin (tcTables nBuf tb) → BufTy
  | .hbm, ⟨0, _⟩ => ⟨S8x4096x1280, .f32⟩
  | .hbm, ⟨1, _⟩ => ⟨S16, .f32⟩
  | .hbm, ⟨2, _⟩ => ⟨S32x16, .f32⟩
  | .hbm, ⟨3, _⟩ => ⟨S384, .i32⟩
  | .hbm, ⟨4, _⟩ => ⟨S1x384, .i32⟩
  | .hbm, ⟨5, _⟩ => ⟨S_, .i32⟩
  | .hbm, ⟨6, _⟩ => ⟨S1x384, .i32⟩
  | .hbm, ⟨7, _⟩ => ⟨S1x384, .i32⟩
  | .hbm, ⟨8, _⟩ => ⟨S128, .i32⟩
  | .hbm, ⟨9, _⟩ => ⟨S128x1, .i32⟩
  | .hbm, ⟨10, _⟩ => ⟨S128x384, .i32⟩
  | .hbm, ⟨11, _⟩ => ⟨S128x384, .i32⟩
  | .hbm, ⟨12, _⟩ => ⟨S128x384, .i32⟩
  | .hbm, ⟨13, _⟩ => ⟨S128x384, .i32⟩
  | .hbm, ⟨14, _⟩ => ⟨S_, .i32⟩
  | .hbm, ⟨15, _⟩ => ⟨S128x384, .i32⟩
  | .hbm, ⟨16, _⟩ => ⟨S128x384, .i1⟩
  | .hbm, ⟨17, _⟩ => ⟨S_, .i32⟩
  | .hbm, ⟨18, _⟩ => ⟨S_, .i32⟩
  | .hbm, ⟨19, _⟩ => ⟨S128x384, .i32⟩
  | .hbm, ⟨20, _⟩ => ⟨S128x384, .i32⟩
  | .hbm, ⟨21, _⟩ => ⟨S128x384, .i32⟩
  | .hbm, ⟨22, _⟩ => ⟨S128x384, .i32⟩
  | .hbm, ⟨23, _⟩ => ⟨S_, .i32⟩
  | .hbm, ⟨24, _⟩ => ⟨S128x384, .i32⟩
  | .hbm, ⟨25, _⟩ => ⟨S128x384, .i32⟩
  | .hbm, ⟨26, _⟩ => ⟨S128x384, .f32⟩
  | .hbm, ⟨27, _⟩ => ⟨S_, .f32⟩
  | .hbm, ⟨28, _⟩ => ⟨S128x384, .f32⟩
  | .hbm, ⟨29, _⟩ => ⟨S128x384, .f32⟩
  | .hbm, ⟨30, _⟩ => ⟨S128x384, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S128x384, .f32⟩
  | .hbm, ⟨35, _⟩ => ⟨S128x384, .f32⟩
  | .hbm, ⟨36, _⟩ => ⟨S_, .f32⟩
  | .hbm, ⟨37, _⟩ => ⟨S128x384, .f32⟩
  | .hbm, ⟨38, _⟩ => ⟨S128x384, .f32⟩
  | .hbm, ⟨39, _⟩ => ⟨S128x384, .i32⟩
  | .hbm, ⟨40, _⟩ => ⟨S_, .i32⟩
  | .hbm, ⟨41, _⟩ => ⟨S128x384, .i32⟩
  | .hbm, ⟨42, _⟩ => ⟨S128x384, .i32⟩
  | .hbm, ⟨43, _⟩ => ⟨S_, .i32⟩
  | .hbm, ⟨44, _⟩ => ⟨S128x384, .i32⟩
  | .hbm, ⟨45, _⟩ => ⟨S128x384, .i32⟩
  | .hbm, ⟨46, _⟩ => ⟨S_, .i32⟩
  | .hbm, ⟨47, _⟩ => ⟨S128x384, .i32⟩
  | .hbm, ⟨48, _⟩ => ⟨S128x384, .i1⟩
  | .hbm, ⟨49, _⟩ => ⟨S128x384, .i32⟩
  | .hbm, ⟨50, _⟩ => ⟨S128x384, .i32⟩
  | .hbm, ⟨51, _⟩ => ⟨S128x384, .i32⟩
  | .hbm, ⟨52, _⟩ => ⟨S_, .i32⟩
  | .hbm, ⟨53, _⟩ => ⟨S128x384, .i32⟩
  | .hbm, ⟨54, _⟩ => ⟨S128x384, .i1⟩
  | .hbm, ⟨55, _⟩ => ⟨S_, .i32⟩
  | .hbm, ⟨56, _⟩ => ⟨S128x384, .i32⟩
  | .hbm, ⟨57, _⟩ => ⟨S128x384, .i32⟩
  | .hbm, ⟨58, _⟩ => ⟨S128x384, .i32⟩
  | .hbm, ⟨59, _⟩ => ⟨S128x384x1, .i32⟩
  | .hbm, ⟨60, _⟩ => ⟨S128x384x16, .f32⟩
  | .hbm, ⟨61, _⟩ => ⟨S16x128x384, .f32⟩
  | .hbm, ⟨62, _⟩ => ⟨S128x384, .i32⟩
  | .hbm, ⟨63, _⟩ => ⟨S_, .i32⟩
  | .hbm, ⟨64, _⟩ => ⟨S128x384, .i32⟩
  | .hbm, ⟨65, _⟩ => ⟨S128x384, .i1⟩
  | .hbm, ⟨66, _⟩ => ⟨S_, .f32⟩
  | .hbm, ⟨67, _⟩ => ⟨S_, .f32⟩
  | .hbm, ⟨68, _⟩ => ⟨S16x128x384, .i1⟩
  | .hbm, ⟨69, _⟩ => ⟨S16x128x384, .f32⟩
  | .hbm, ⟨70, _⟩ => ⟨S16x128x384, .f32⟩
  | .hbm, ⟨71, _⟩ => ⟨S32768x1280, .f32⟩
  | .hbm, ⟨72, _⟩ => ⟨S2x1024x384, .f32⟩
  | .hbm, ⟨73, _⟩ => ⟨S16x128, .f32⟩
  | .hbm, ⟨74, _⟩ => ⟨S2048, .f32⟩
  | .hbm, ⟨75, _⟩ => ⟨S2x1024x1, .f32⟩
  | .hbm, ⟨76, _⟩ => ⟨S32768x1024, .f32⟩
  | .local _ .vmem, ⟨0, _⟩ => ⟨S2x1024x1, .f32⟩
  | .local _ .vmem, ⟨1, _⟩ => ⟨S128x1024, .f32⟩
  | .local _ .vmem, ⟨2, _⟩ => ⟨S128x1024, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S2x1024x384, .f32⟩
  | .local _ .vmem, ⟨16, _⟩ => ⟨S128x1024, .f32⟩
  | .local _ .vmem, ⟨17, _⟩ => ⟨S128x1024, .f32⟩
  | _, _ => ⟨S8x4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_11 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c8_i32 : BitVec 32 := 8#32
  let c0_i32_0 : BitVec 32 := 0#32
  ![v3.toNat, c8_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let c0_i32 : BitVec 32 := 0#32
  ![v1.toNat, c8_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c31_i32 : BitVec 32 := 31#32
  let v2 : BitVec 32 := Scalar.minsi v1 c31_i32
  let v3 : BitVec 32 := Scalar.addi v0 v2
  let c8_i32 : BitVec 32 := 8#32
  let c0_i32 : BitVec 32 := 0#32
  ![v3.toNat, c8_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c9_i32 : BitVec 32 := 9#32
  let c0_i32_0 : BitVec 32 := 0#32
  ![v3.toNat, c9_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c9_i32 : BitVec 32 := 9#32
  let c0_i32 : BitVec 32 := 0#32
  ![v1.toNat, c9_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c31_i32 : BitVec 32 := 31#32
  let v2 : BitVec 32 := Scalar.minsi v1 c31_i32
  let v3 : BitVec 32 := Scalar.addi v0 v2
  let c9_i32 : BitVec 32 := 9#32
  let c0_i32 : BitVec 32 := 0#32
  ![v3.toNat, c9_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S2x1024x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2x1024x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x1280 : Shape := ⟨3, ![8, 4096, 1280]⟩
abbrev S16 : Shape := ⟨1, ![16]⟩
abbrev S32x16 : Shape := ⟨2, ![32, 16]⟩
abbrev S8x4096x1024 : Shape := ⟨3, ![8, 4096, 1024]⟩
abbrev S8x4096x128 : Shape := ⟨3, ![8, 4096, 128]⟩
abbrev S8x32x128x2x8x64 : Shape := ⟨6, ![8, 32, 128, 2, 8, 64]⟩
abbrev S8x32x128x2x64 : Shape := ⟨5, ![8, 32, 128, 2, 64]⟩
abbrev S_ : Shape := ⟨0, ![]⟩
abbrev S8x34x128x2x64 : Shape := ⟨5, ![8, 34, 128, 2, 64]⟩
abbrev S8x32x384x2x64 : Shape := ⟨5, ![8, 32, 384, 2, 64]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x16 : Shape := ⟨3, ![128, 384, 16]⟩
abbrev S16x128x384 : Shape := ⟨3, ![16, 128, 384]⟩
abbrev S2x8x128x384 : Shape := ⟨4, ![2, 8, 128, 384]⟩
abbrev S1x1x2x8x1x1 : Shape := ⟨6, ![1, 1, 2, 8, 1, 1]⟩
abbrev S8x32x2x384x128x8 : Shape := ⟨6, ![8, 32, 2, 384, 128, 8]⟩
abbrev S8x32x2x8x128x384 : Shape := ⟨6, ![8, 32, 2, 8, 128, 384]⟩
abbrev S1x1x2x8x128x384 : Shape := ⟨6, ![1, 1, 2, 8, 128, 384]⟩
abbrev S32 : Shape := ⟨1, ![32]⟩
abbrev S32x1 : Shape := ⟨2, ![32, 1]⟩
abbrev S32x384 : Shape := ⟨2, ![32, 384]⟩
abbrev S1x32x1x1x1x384 : Shape := ⟨6, ![1, 32, 1, 1, 1, 384]⟩
abbrev S8x32x2x8x128 : Shape := ⟨5, ![8, 32, 2, 8, 128]⟩
abbrev S8x32x2x8x128x1 : Shape := ⟨6, ![8, 32, 2, 8, 128, 1]⟩
abbrev S8x32x2x8x128x64 : Shape := ⟨6, ![8, 32, 2, 8, 128, 64]⟩
abbrev S32768x1024 : Shape := ⟨2, ![32768, 1024]⟩

abbrev nBuf : Space → Nat
  | .hbm => 147
  | .vmem => 0
  | .smem => 0
  | _ => 0

abbrev hbmTy0_0 (i : Nat) : BufTy := match i % 128 with
  | 0 => ⟨S8x4096x1280, .f32⟩
  | 1 => ⟨S16, .f32⟩
  | 2 => ⟨S32x16, .f32⟩
  | 3 => ⟨S8x4096x1024, .f32⟩
  | 4 => ⟨S8x4096x128, .f32⟩
  | 5 => ⟨S8x4096x128, .f32⟩
  | 6 => ⟨S8x32x128x2x8x64, .f32⟩
  | 7 => ⟨S8x32x128x2x64, .f32⟩
  | 8 => ⟨S_, .i32⟩
  | 9 => ⟨S_, .f32⟩
  | 10 => ⟨S8x34x128x2x64, .f32⟩
  | 11 => ⟨S8x32x128x2x64, .f32⟩
  | 12 => ⟨S_, .i32⟩
  | 13 => ⟨S_, .f32⟩
  | 14 => ⟨S8x34x128x2x64, .f32⟩
  | 15 => ⟨S8x32x128x2x64, .f32⟩
  | 16 => ⟨S8x32x128x2x64, .f32⟩
  | 17 => ⟨S8x32x128x2x64, .f32⟩
  | 18 => ⟨S8x32x384x2x64, .f32⟩
  | 19 => ⟨S8x32x128x2x64, .f32⟩
  | 20 => ⟨S8x32x128x2x64, .f32⟩
  | 21 => ⟨S8x32x128x2x64, .f32⟩
  | 22 => ⟨S8x32x384x2x64, .f32⟩
  | 23 => ⟨S384, .i32⟩
  | 24 => ⟨S1x384, .i32⟩
  | 25 => ⟨S_, .i32⟩
  | 26 => ⟨S1x384, .i32⟩
  | 27 => ⟨S1x384, .i32⟩
  | 28 => ⟨S128, .i32⟩
  | 29 => ⟨S128x1, .i32⟩
  | 30 => ⟨S128x384, .i32⟩
  | 31 => ⟨S128x384, .i32⟩
  | 32 => ⟨S128x384, .i32⟩
  | 33 => ⟨S128x384, .i32⟩
  | 34 => ⟨S_, .i32⟩
  | 35 => ⟨S128x384, .i32⟩
  | 36 => ⟨S128x384, .i1⟩
  | 37 => ⟨S_, .i32⟩
  | 38 => ⟨S_, .i32⟩
  | 39 => ⟨S128x384, .i32⟩
  | 40 => ⟨S128x384, .i32⟩
  | 41 => ⟨S128x384, .i32⟩
  | 42 => ⟨S128x384, .i32⟩
  | 43 => ⟨S_, .i32⟩
  | 44 => ⟨S128x384, .i32⟩
  | 45 => ⟨S128x384, .i32⟩
  | 46 => ⟨S128x384, .f32⟩
  | 47 => ⟨S_, .f32⟩
  | 48 => ⟨S128x384, .f32⟩
  | 49 => ⟨S128x384, .f32⟩
  | 50 => ⟨S128x384, .f32⟩
  | 51 => ⟨S_, .f32⟩
  | 52 => ⟨S_, .f32⟩
  | 53 => ⟨S_, .f32⟩
  | 54 => ⟨S128x384, .f32⟩
  | 55 => ⟨S128x384, .f32⟩
  | 56 => ⟨S_, .f32⟩
  | 57 => ⟨S128x384, .f32⟩
  | 58 => ⟨S128x384, .f32⟩
  | 59 => ⟨S128x384, .i32⟩
  | 60 => ⟨S_, .i32⟩
  | 61 => ⟨S128x384, .i32⟩
  | 62 => ⟨S128x384, .i32⟩
  | 63 => ⟨S_, .i32⟩
  | 64 => ⟨S128x384, .i32⟩
  | 65 => ⟨S128x384, .i32⟩
  | 66 => ⟨S_, .i32⟩
  | 67 => ⟨S128x384, .i32⟩
  | 68 => ⟨S128x384, .i1⟩
  | 69 => ⟨S128x384, .i32⟩
  | 70 => ⟨S128x384, .i32⟩
  | 71 => ⟨S128x384, .i32⟩
  | 72 => ⟨S_, .i32⟩
  | 73 => ⟨S128x384, .i32⟩
  | 74 => ⟨S128x384, .i1⟩
  | 75 => ⟨S_, .i32⟩
  | 76 => ⟨S128x384, .i32⟩
  | 77 => ⟨S128x384, .i32⟩
  | 78 => ⟨S128x384, .i32⟩
  | 79 => ⟨S128x384x1, .i32⟩
  | 80 => ⟨S128x384x16, .f32⟩
  | 81 => ⟨S16x128x384, .f32⟩
  | 82 => ⟨S128x384, .i32⟩
  | 83 => ⟨S_, .i32⟩
  | 84 => ⟨S128x384, .i32⟩
  | 85 => ⟨S128x384, .i1⟩
  | 86 => ⟨S_, .f32⟩
  | 87 => ⟨S_, .f32⟩
  | 88 => ⟨S16x128x384, .i1⟩
  | 89 => ⟨S16x128x384, .f32⟩
  | 90 => ⟨S16x128x384, .f32⟩
  | 91 => ⟨S2x8x128x384, .f32⟩
  | 92 => ⟨S1x1x2x8x1x1, .f32⟩
  | 93 => ⟨S8x32x2x384x128x8, .f32⟩
  | 94 => ⟨S8x32x2x8x128x384, .f32⟩
  | 95 => ⟨S_, .f32⟩
  | 96 => ⟨S8x32x2x8x128x384, .f32⟩
  | 97 => ⟨S8x32x2x8x128x384, .f32⟩
  | 98 => ⟨S1x1x2x8x128x384, .f32⟩
  | 99 => ⟨S8x32x2x8x128x384, .f32⟩
  | 100 => ⟨S8x32x2x8x128x384, .f32⟩
  | 101 => ⟨S32, .i32⟩
  | 102 => ⟨S32x1, .i32⟩
  | 103 => ⟨S_, .i32⟩
  | 104 => ⟨S32x1, .i32⟩
  | 105 => ⟨S32x1, .i32⟩
  | 106 => ⟨S_, .i32⟩
  | 107 => ⟨S32x1, .i32⟩
  | 108 => ⟨S32x1, .i32⟩
  | 109 => ⟨S384, .i32⟩
  | 110 => ⟨S1x384, .i32⟩
  | 111 => ⟨S32x384, .i32⟩
  | 112 => ⟨S32x384, .i32⟩
  | 113 => ⟨S32x384, .i32⟩
  | 114 => ⟨S_, .i32⟩
  | 115 => ⟨S32x384, .i32⟩
  | 116 => ⟨S32x384, .i1⟩
  | 117 => ⟨S_, .i32⟩
  | 118 => ⟨S32x384, .i32⟩
  | 119 => ⟨S32x384, .i1⟩
  | 120 => ⟨S32x384, .i1⟩
  | 121 => ⟨S1x32x1x1x1x384, .i1⟩
  | 122 => ⟨S_, .f32⟩
  | 123 => ⟨S_, .f32⟩
  | 124 => ⟨S8x32x2x8x128x384, .i1⟩
  | 125 => ⟨S8x32x2x8x128x384, .f32⟩
  | 126 => ⟨S8x32x2x8x128x384, .f32⟩
  | 127 => ⟨S_, .f32⟩
  | _ => ⟨S8x4096x1280, .f32⟩

abbrev hbmTy0_1 (i : Nat) : BufTy := match i % 128 with
  | 0 => ⟨S8x32x2x8x128, .f32⟩
  | 1 => ⟨S8x32x2x8x128x1, .f32⟩
  | 2 => ⟨S8x32x2x8x128x1, .f32⟩
  | 3 => ⟨S8x32x2x8x128x1, .f32⟩
  | 4 => ⟨S8x32x2x8x128x384, .f32⟩
  | 5 => ⟨S8x32x2x8x128x384, .f32⟩
  | 6 => ⟨S8x32x2x8x128x384, .f32⟩
  | 7 => ⟨S_, .f32⟩
  | 8 => ⟨S8x32x2x8x128, .f32⟩
  | 9 => ⟨S8x32x2x8x128x1, .f32⟩
  | 10 => ⟨S8x32x2x8x128x1, .f32⟩
  | 11 => ⟨S8x32x2x8x128x1, .f32⟩
  | 12 => ⟨S8x32x2x8x128x1, .f32⟩
  | 13 => ⟨S8x32x2x8x128x1, .f32⟩
  | 14 => ⟨S8x32x2x8x128x64, .f32⟩
  | 15 => ⟨S8x32x2x8x128x64, .f32⟩
  | 16 => ⟨S8x32x2x8x128x64, .f32⟩
  | 17 => ⟨S8x32x128x2x8x64, .f32⟩
  | 18 => ⟨S32768x1024, .f32⟩
  | _ => ⟨S8x4096x1280, .f32⟩

abbrev hbmTy (i : Nat) : BufTy := match i / 128 with
  | 0 => hbmTy0_0 i
  | 1 => hbmTy0_1 i
  | _ => ⟨S8x4096x1280, .f32⟩

abbrev bufTy : (tb : Table) → Fin (tcTables nBuf tb) → BufTy
  | .hbm, ⟨i, _⟩ => hbmTy i
  | _, _ => ⟨S8x4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_c_4 : Ref sig .tc := ⟨.hbm, 38, rfl⟩
abbrev main_call2_v0 : Ref sig .tc := ⟨.hbm, 39, rfl⟩
abbrev main_call2_v1 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_c_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_13 : Ref sig .tc := ⟨.hbm, 83, rfl⟩
abbrev main_v61 : Ref sig .tc := ⟨.hbm, 84, rfl⟩
abbrev main_v62 : Ref sig .tc := ⟨.hbm, 85, rfl⟩
abbrev main_cst_14 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_18 : Ref sig .tc := ⟨.hbm, 114, rfl⟩
abbrev main_v84 : Ref sig .tc := ⟨.hbm, 115, rfl⟩
abbrev main_v85 : Ref sig .tc := ⟨.hbm, 116, rfl⟩
abbrev main_c_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_20 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v90 : Ref sig .tc := ⟨.hbm, 126, rfl⟩
abbrev main_cst_21 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_22 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩

abbrev nD : Nat := 1
abbrev τ : Topo := Topo.v7x

variable {F : FTy → Type} [FloatOps F]
-- ==== Kernel2.lean ====
abbrev S288 : Shape := ⟨1, ![288]⟩
abbrev S1 : Shape := ⟨1, ![1]⟩
abbrev S147456x512 : Shape := ⟨2, ![147456, 512]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S4x32x8x128x2 : Shape := ⟨5, ![4, 32, 8, 128, 2]⟩
abbrev S4x32x8x2x128 : Shape := ⟨5, ![4, 32, 8, 2, 128]⟩
abbrev S_ : Shape := ⟨0, ![]⟩
abbrev S287 : Shape := ⟨1, ![287]⟩
abbrev S4x32x1x2048 : Shape := ⟨4, ![4, 32, 1, 2048]⟩
abbrev S4x32x1x1024 : Shape := ⟨4, ![4, 32, 1, 1024]⟩
abbrev S147456x1024 : Shape := ⟨2, ![147456, 1024]⟩
abbrev S512x512 : Shape := ⟨2, ![512, 512]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S512x1024 : Shape := ⟨2, ![512, 1024]⟩
abbrev S1024x2048 : Shape := ⟨2, ![1024, 2048]⟩
abbrev S1024x1024 : Shape := ⟨2, ![1024, 1024]⟩
abbrev S256x256 : Shape := ⟨2, ![256, 256]⟩
abbrev S1x1x1024x256 : Shape := ⟨4, ![1, 1, 1024, 256]⟩
abbrev S1024x256 : Shape := ⟨2, ![1024, 256]⟩
abbrev S512x2048 : Shape := ⟨2, ![512, 2048]⟩
abbrev S1x2048 : Shape := ⟨2, ![1, 2048]⟩
abbrev S512x128 : Shape := ⟨2, ![512, 128]⟩
abbrev S1x1024 : Shape := ⟨2, ![1, 1024]⟩

abbrev nBuf : Space → Nat
  | .hbm => 17
  | .vmem => 14
  | .smem => 3
  | _ => 0

abbrev bufTy : (tb : Table) → Fin (tcTables nBuf tb) → BufTy
  | .hbm, ⟨0, _⟩ => ⟨S147456x512, .i32⟩
  | .hbm, ⟨1, _⟩ => ⟨S4x32x1024x2048, .f32⟩
  | .hbm, ⟨2, _⟩ => ⟨S4x32x2048, .f32⟩
  | .hbm, ⟨3, _⟩ => ⟨S4x32x1024x1024, .f32⟩
  | .hbm, ⟨4, _⟩ => ⟨S4x32x1024, .f32⟩
  | .hbm, ⟨5, _⟩ => ⟨S4x32x8x128x2, .f32⟩
  | .hbm, ⟨6, _⟩ => ⟨S4x32x8x2x128, .f32⟩
  | .hbm, ⟨7, _⟩ => ⟨S4x32x2048, .f32⟩
  | .hbm, ⟨8, _⟩ => ⟨S_, .i32⟩
  | .hbm, ⟨9, _⟩ => ⟨S1, .i32⟩
  | .hbm, ⟨10, _⟩ => ⟨S287, .i32⟩
  | .hbm, ⟨11, _⟩ => ⟨S287, .i32⟩
  | .hbm, ⟨12, _⟩ => ⟨S287, .i1⟩
  | .hbm, ⟨13, _⟩ => ⟨S287, .i32⟩
  | .hbm, ⟨14, _⟩ => ⟨S4x32x1x2048, .f32⟩
  | .hbm, ⟨15, _⟩ => ⟨S4x32x1x1024, .f32⟩
  | .hbm, ⟨16, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S1, .i32⟩
  | _, _ => ⟨S147456x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_arg0 : Ref sig .tc := ⟨.smem, 0, rfl⟩
abbrev main_v8 : Ref sig .tc := ⟨.smem, 1, rfl⟩
abbrev main_arg1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_v8.idx, main_arg1.idx], fun | 0 => main_arg0.names | 1 => main_v8.names | 2 => main_arg1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v8 : BitVec 32) : BitVec 1 :=
  let arg0 : BitVec 32 := BitVec.ofNat 32 (i 0).val
  let v9 : BitVec 1 := Scalar.cmpi .slt arg0 v8
  let v10 : BitVec 32 := Scalar.extui v9
  let c0_i32_1 : BitVec 32 := 0#32
  let v11 : BitVec 1 := Scalar.cmpi .ne v10 c0_i32_1
  v11

def k0_cond3 (i : grid0.Coords) (v12 : BitVec 32) : BitVec 1 :=
  let arg0 : BitVec 32 := BitVec.ofNat 32 (i 0).val
  let v13 : BitVec 1 := Scalar.cmpi .sge arg0 v12
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S288 : Shape := ⟨1, ![288]⟩
abbrev S1 : Shape := ⟨1, ![1]⟩
abbrev S147456x512 : Shape := ⟨2, ![147456, 512]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S1x32x1024x2048 : Shape := ⟨4, ![1, 32, 1024, 2048]⟩
abbrev S32x1024x2048 : Shape := ⟨3, ![32, 1024, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S_ : Shape := ⟨0, ![]⟩
abbrev S147456x1024 : Shape := ⟨2, ![147456, 1024]⟩
abbrev S288x512x1024 : Shape := ⟨3, ![288, 512, 1024]⟩
abbrev S288x1 : Shape := ⟨2, ![288, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x512, .i32⟩
  | .hbm, ⟨3, _⟩ => ⟨S4x32x1024x2048, .f32⟩
  | .hbm, ⟨4, _⟩ => ⟨S4x32x2048, .f32⟩
  | .hbm, ⟨5, _⟩ => ⟨S4x32x1024x1024, .f32⟩
  | .hbm, ⟨6, _⟩ => ⟨S4x32x1024, .f32⟩
  | .hbm, ⟨7, _⟩ => ⟨S1x32x1024x2048, .f32⟩
  | .hbm, ⟨8, _⟩ => ⟨S32x1024x2048, .f32⟩
  | .hbm, ⟨9, _⟩ => ⟨S1x32x2048, .f32⟩
  | .hbm, ⟨10, _⟩ => ⟨S32x2048, .f32⟩
  | .hbm, ⟨11, _⟩ => ⟨S1x32x1024x1024, .f32⟩
  | .hbm, ⟨12, _⟩ => ⟨S32x1024x1024, .f32⟩
  | .hbm, ⟨13, _⟩ => ⟨S1x32x1024, .f32⟩
  | .hbm, ⟨14, _⟩ => ⟨S32x1024, .f32⟩
  | .hbm, ⟨15, _⟩ => ⟨S_, .i32⟩
  | .hbm, ⟨16, _⟩ => ⟨S147456x512, .i32⟩
  | .hbm, ⟨17, _⟩ => ⟨S147456x512, .i32⟩
  | .hbm, ⟨18, _⟩ => ⟨S147456x512, .f32⟩
  | .hbm, ⟨19, _⟩ => ⟨S_, .i32⟩
  | .hbm, ⟨20, _⟩ => ⟨S147456x512, .i32⟩
  | .hbm, ⟨21, _⟩ => ⟨S147456x512, .i32⟩
  | .hbm, ⟨22, _⟩ => ⟨S147456x512, .f32⟩
  | .hbm, ⟨23, _⟩ => ⟨S147456x1024, .f32⟩
  | .hbm, ⟨24, _⟩ => ⟨S288x512x1024, .f32⟩
  | .hbm, ⟨25, _⟩ => ⟨S_, .i32⟩
  | .hbm, ⟨26, _⟩ => ⟨S288, .i32⟩
  | .hbm, ⟨27, _⟩ => ⟨S288, .i1⟩
  | .hbm, ⟨28, _⟩ => ⟨S_, .i32⟩
  | .hbm, ⟨29, _⟩ => ⟨S288, .i32⟩
  | .hbm, ⟨30, _⟩ => ⟨S288, .i32⟩
  | .hbm, ⟨31, _⟩ => ⟨S288, .i32⟩
  | .hbm, ⟨32, _⟩ => ⟨S288x1, .i32⟩
  | .hbm, ⟨33, _⟩ => ⟨S288x1024x2048, .f32⟩
  | .hbm, ⟨34, _⟩ => ⟨S288x512x2048, .f32⟩
  | .hbm, ⟨35, _⟩ => ⟨S_, .i32⟩
  | .hbm, ⟨36, _⟩ => ⟨S288, .i32⟩
  | .hbm, ⟨37, _⟩ => ⟨S288, .i1⟩
  | .hbm, ⟨38, _⟩ => ⟨S_, .i32⟩
  | .hbm, ⟨39, _⟩ => ⟨S288, .i32⟩
  | .hbm, ⟨40, _⟩ => ⟨S288, .i32⟩
  | .hbm, ⟨41, _⟩ => ⟨S288, .i32⟩
  | .hbm, ⟨42, _⟩ => ⟨S288x1, .i32⟩
  | .hbm, ⟨43, _⟩ => ⟨S288x2048, .f32⟩
  | .hbm, ⟨44, _⟩ => ⟨S288x1x2048, .f32⟩
  | .hbm, ⟨45, _⟩ => ⟨S288x512x2048, .f32⟩
  | .hbm, ⟨46, _⟩ => ⟨S288x512x2048, .f32⟩
  | .hbm, ⟨47, _⟩ => ⟨S288x512x1024, .f32⟩
  | .hbm, ⟨48, _⟩ => ⟨S_, .f32⟩
  | .hbm, ⟨49, _⟩ => ⟨S288x512x1024, .f32⟩
  | .hbm, ⟨50, _⟩ => ⟨S288x512x1024, .f32⟩
  | .hbm, ⟨51, _⟩ => ⟨S288x512x1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S288x512x1024, .f32⟩
  | .hbm, ⟨56, _⟩ => ⟨S288x512x1024, .f32⟩
  | .hbm, ⟨57, _⟩ => ⟨S_, .f32⟩
  | .hbm, ⟨58, _⟩ => ⟨S288x512x1024, .f32⟩
  | .hbm, ⟨59, _⟩ => ⟨S288x512x1024, .f32⟩
  | .hbm, ⟨60, _⟩ => ⟨S_, .f32⟩
  | .hbm, ⟨61, _⟩ => ⟨S288x512x1024, .f32⟩
  | .hbm, ⟨62, _⟩ => ⟨S288x512x1024, .f32⟩
  | .hbm, ⟨63, _⟩ => ⟨S288x512x1024, .f32⟩
  | .hbm, ⟨64, _⟩ => ⟨S288x512x1024, .f32⟩
  | .hbm, ⟨65, _⟩ => ⟨S_, .f32⟩
  | .hbm, ⟨66, _⟩ => ⟨S288x512x1024, .f32⟩
  | .hbm, ⟨67, _⟩ => ⟨S288x512x1024, .f32⟩
  | .hbm, ⟨68, _⟩ => ⟨S_, .f32⟩
  | .hbm, ⟨69, _⟩ => ⟨S288x512x1024, .f32⟩
  | .hbm, ⟨70, _⟩ => ⟨S288x512x1024, .f32⟩
  | .hbm, ⟨71, _⟩ => ⟨S288x512x1024, .f32⟩
  | .hbm, ⟨72, _⟩ => ⟨S_, .f32⟩
  | .hbm, ⟨73, _⟩ => ⟨S288x512x1024, .f32⟩
  | .hbm, ⟨74, _⟩ => ⟨S288x512x1024, .f32⟩
  | .hbm, ⟨75, _⟩ => ⟨S288x512x1024, .f32⟩
  | .hbm, ⟨76, _⟩ => ⟨S_, .i32⟩
  | .hbm, ⟨77, _⟩ => ⟨S288, .i32⟩
  | .hbm, ⟨78, _⟩ => ⟨S288, .i1⟩
  | .hbm, ⟨79, _⟩ => ⟨S_, .i32⟩
  | .hbm, ⟨80, _⟩ => ⟨S288, .i32⟩
  | .hbm, ⟨81, _⟩ => ⟨S288, .i32⟩
  | .hbm, ⟨82, _⟩ => ⟨S288, .i32⟩
  | .hbm, ⟨83, _⟩ => ⟨S288x1, .i32⟩
  | .hbm, ⟨84, _⟩ => ⟨S288x1024x1024, .f32⟩
  | .hbm, ⟨85, _⟩ => ⟨S288x512x1024, .f32⟩
  | .hbm, ⟨86, _⟩ => ⟨S_, .i32⟩
  | .hbm, ⟨87, _⟩ => ⟨S288, .i32⟩
  | .hbm, ⟨88, _⟩ => ⟨S288, .i1⟩
  | .hbm, ⟨89, _⟩ => ⟨S_, .i32⟩
  | .hbm, ⟨90, _⟩ => ⟨S288, .i32⟩
  | .hbm, ⟨91, _⟩ => ⟨S288, .i32⟩
  | .hbm, ⟨92, _⟩ => ⟨S288, .i32⟩
  | .hbm, ⟨93, _⟩ => ⟨S288x1, .i32⟩
  | .hbm, ⟨94, _⟩ => ⟨S288x1024, .f32⟩
  | .hbm, ⟨95, _⟩ => ⟨S288x1x1024, .f32⟩
  | .hbm, ⟨96, _⟩ => ⟨S288x512x1024, .f32⟩
  | .hbm, ⟨97, _⟩ => ⟨S288x512x1024, .f32⟩
  | .hbm, ⟨98, _⟩ => ⟨S288, .i32⟩
  | .hbm, ⟨99, _⟩ => ⟨S_, .i32⟩
  | .hbm, ⟨100, _⟩ => ⟨S288, .i32⟩
  | .hbm, ⟨101, _⟩ => ⟨S288, .i1⟩
  | .hbm, ⟨102, _⟩ => ⟨S288x1x1, .i1⟩
  | .hbm, ⟨103, _⟩ => ⟨S_, .f32⟩
  | .hbm, ⟨104, _⟩ => ⟨S_, .f32⟩
  | .hbm, ⟨105, _⟩ => ⟨S288x512x1024, .i1⟩
  | .hbm, ⟨106, _⟩ => ⟨S288x512x1024, .f32⟩
  | .hbm, ⟨107, _⟩ => ⟨S288x512x1024, .f32⟩
  | .hbm, ⟨108, _⟩ => ⟨S147456x1024, .f32⟩
  | .hbm, ⟨109, _⟩ => ⟨S147456x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S8x1024 : Shape := ⟨2, ![8, 1024]⟩
abbrev S1024x2816 : Shape := ⟨2, ![1024, 2816]⟩
abbrev S32768x1024 : Shape := ⟨2, ![32768, 1024]⟩
abbrev S8x1x1024 : Shape := ⟨3, ![8, 1, 1024]⟩
abbrev S1x1024 : Shape := ⟨2, ![1, 1024]⟩
abbrev S32768x1792 : Shape := ⟨2, ![32768, 1792]⟩
abbrev S512x1024 : Shape := ⟨2, ![512, 1024]⟩
abbrev S1x1x1024 : Shape := ⟨3, ![1, 1, 1024]⟩
abbrev S512x1792 : Shape := ⟨2, ![512, 1792]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2816, .f32⟩
  | .hbm, ⟨5, _⟩ => ⟨S32768x1024, .f32⟩
  | .hbm, ⟨6, _⟩ => ⟨S8x1x1024, .f32⟩
  | .hbm, ⟨7, _⟩ => ⟨S8x1x1024, .f32⟩
  | .hbm, ⟨8, _⟩ => ⟨S1024x2816, .bf16⟩
  | .hbm, ⟨9, _⟩ => ⟨S1x1024, .f32⟩
  | .hbm, ⟨10, _⟩ => ⟨S32768x1792, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2816, .bf16⟩
  | .local _ .vmem, ⟨8, _⟩ => ⟨S512x1792, .f32⟩
  | .local _ .vmem, ⟨9, _⟩ => ⟨S512x1792, .f32⟩
  | .local _ .vmem, ⟨10, _⟩ => ⟨S512x1024, .f32⟩
  | .local _ .vmem, ⟨11, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x4096x1024 : Shape := ⟨3, ![8, 4096, 1024]⟩
abbrev S1024 : Shape := ⟨1, ![1024]⟩
abbrev S8x1024 : Shape := ⟨2, ![8, 1024]⟩
abbrev S1024x2816 : Shape := ⟨2, ![1024, 2816]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x2816 : Shape := ⟨3, ![8, 4096, 2816]⟩
abbrev S8x4096x1792 : Shape := ⟨3, ![8, 4096, 1792]⟩
abbrev S32768x1792 : Shape := ⟨2, ![32768, 1792]⟩
abbrev S32768x1024 : Shape := ⟨2, ![32768, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2816, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x2816, .f32⟩
  | .hbm, ⟨31, _⟩ => ⟨S8x4096x1792, .f32⟩
  | .hbm, ⟨32, _⟩ => ⟨S32768x1792, .f32⟩
  | .hbm, ⟨33, _⟩ => ⟨S8x4096x1024, .f32⟩
  | .hbm, ⟨34, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S8x1024 : Shape := ⟨2, ![8, 1024]⟩
abbrev S1024x1280 : Shape := ⟨2, ![1024, 1280]⟩
abbrev S32768x1024 : Shape := ⟨2, ![32768, 1024]⟩
abbrev S8x1x1024 : Shape := ⟨3, ![8, 1, 1024]⟩
abbrev S1x1024 : Shape := ⟨2, ![1, 1024]⟩
abbrev S32768x1280 : Shape := ⟨2, ![32768, 1280]⟩
abbrev S512x1024 : Shape := ⟨2, ![512, 1024]⟩
abbrev S1x1x1024 : Shape := ⟨3, ![1, 1, 1024]⟩
abbrev S512x1280 : Shape := ⟨2, ![512, 1280]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x1280, .f32⟩
  | .hbm, ⟨5, _⟩ => ⟨S32768x1024, .f32⟩
  | .hbm, ⟨6, _⟩ => ⟨S8x1x1024, .f32⟩
  | .hbm, ⟨7, _⟩ => ⟨S8x1x1024, .f32⟩
  | .hbm, ⟨8, _⟩ => ⟨S1024x1280, .bf16⟩
  | .hbm, ⟨9, _⟩ => ⟨S1x1024, .f32⟩
  | .hbm, ⟨10, _⟩ => ⟨S32768x1280, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1280, .bf16⟩
  | .local _ .vmem, ⟨8, _⟩ => ⟨S512x1280, .f32⟩
  | .local _ .vmem, ⟨9, _⟩ => ⟨S512x1280, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8x4096x1024 : Shape := ⟨3, ![8, 4096, 1024]⟩
abbrev S1024 : Shape := ⟨1, ![1024]⟩
abbrev S8x1024 : Shape := ⟨2, ![8, 1024]⟩
abbrev S1024x1280 : Shape := ⟨2, ![1024, 1280]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x1280 : Shape := ⟨3, ![8, 4096, 1280]⟩
abbrev S32768x1280 : Shape := ⟨2, ![32768, 1280]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x1280, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x1280, .f32⟩
  | .hbm, ⟨31, _⟩ => ⟨S32768x1280, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel5.lean ====
abbrev S32768x1024 : Shape := ⟨2, ![32768, 1024]⟩
abbrev S8x4096x1024 : Shape := ⟨3, ![8, 4096, 1024]⟩
abbrev S1024x1024 : Shape := ⟨2, ![1024, 1024]⟩
abbrev S1024 : Shape := ⟨1, ![1024]⟩
abbrev S8x1024 : Shape := ⟨2, ![8, 1024]⟩
abbrev S8x1x1024 : Shape := ⟨3, ![8, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S8x4096x1024, .f32⟩
  | .hbm, ⟨2, _⟩ => ⟨S1024x1024, .f32⟩
  | .hbm, ⟨3, _⟩ => ⟨S1024, .f32⟩
  | .hbm, ⟨4, _⟩ => ⟨S8x1024, .f32⟩
  | .hbm, ⟨5, _⟩ => ⟨S32768x1024, .f32⟩
  | .hbm, ⟨6, _⟩ => ⟨S8x1x1024, .f32⟩
  | .hbm, ⟨7, _⟩ => ⟨S1024x1024, .bf16⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S32768x1024 : Shape := ⟨2, ![32768, 1024]⟩
abbrev S8x4096x1024 : Shape := ⟨3, ![8, 4096, 1024]⟩
abbrev S1024x1024 : Shape := ⟨2, ![1024, 1024]⟩
abbrev S1024 : Shape := ⟨1, ![1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x4096x1024, .f32⟩
  | .hbm, ⟨2, _⟩ => ⟨S1024x1024, .f32⟩
  | .hbm, ⟨3, _⟩ => ⟨S1024, .f32⟩
  | .hbm, ⟨4, _⟩ => ⟨S8x1024, .f32⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel6.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Row.lean ====
/- One query's attention over its 384 neighbouring keys on the extended reals: its scores, its weighted mean with a sink,
   and the fact that a value whose score is minus infinity does not count. -/
module

public import Idealize.ShloMosaic.Lib.Pipeline.ValueKit

@[expose] public section

set_option maxRecDepth 16384

noncomputable section

namespace Cert.Row

open Idealize.ShloMosaic

/-- The greatest of the scores and the sink. -/
def top (s : Fin 384 → EReal) (k : EReal) : EReal :=
  max ((Finset.univ : Finset (Fin 384)).fold max (Ideal.ofBits .f32 0xFF800000#32) s) k

/-- The mean of `v` weighted by the exponentials of the scores `s`, the sink `k` counting in the divisor alone. -/
def mean (s : Fin 384 → EReal) (k : EReal) (v : Fin 384 → EReal) : EReal :=
  Ideal.div (∑ j, Ideal.exp (s j - top s k) * v j) (∑ j, Ideal.exp (s j - top s k) + Ideal.exp (k - top s k))

/-- The pattern of minus infinity. -/
theorem ofBits_negInf : Ideal.ofBits .f32 0xFF800000#32 = ⊥ := by simp [Ideal.ofBits, Ideal.ieee]

/-- Minus infinity less anything is minus infinity, whose exponential is zero. -/
theorem exp_bot_sub (a : EReal) : Ideal.exp (⊥ - a) = 0 := by
  rw [EReal.bot_sub]; rfl

/-- Values that differ only where the score is minus infinity have one mean. -/
theorem mean_congr {s s' : Fin 384 → EReal} {k : EReal} {v v' : Fin 384 → EReal} (hs : ∀ j, s j = s' j) (hv : ∀ j, s' j = ⊥ ∨ v j = v' j) :
    mean s k v = mean s' k v' := by
  obtain rfl : s = s' := funext hs
  unfold mean
  congr 1
  refine Finset.sum_congr rfl fun j _ => ?_
  rcases hv j with h | h
  · rw [h, exp_bot_sub, zero_mul, zero_mul]
  · rw [h]

/-- Set where key `j` of the blocks around block `n` is inside the sequence. -/
abbrev Ok (n : Fin 32) (j : Fin 384) : Prop := (128 ≤ j.val ∨ 0 < n.val) ∧ (j.val < 256 ∨ n.val < 31)

/-- The row of key `j` of the blocks around block `n`. -/
def near (n : Fin 32) (j : Fin 384) : Fin 4096 := ⟨(n.val * 128 + j.val - 128) % 4096, Nat.mod_lt _ (by decide)⟩

/-- Queries, keys and values. -/
abbrev Acts := (⟨3, ![8, 4096, 1280]⟩ : Shape).Idx → EReal

/-- The score of key `j` for query `q` of block `n` of sequence `b` and head `h`. -/
def score (X : Acts) (B : (⟨3, ![16, 128, 384]⟩ : Shape).Idx → EReal) (b : Fin 8) (n : Fin 32) (q : Fin 128) (h : Fin 16) (j : Fin 384) : EReal :=
  if Ok n j then (∑ d : Fin 64, X (ix3 b ⟨n.val * 128 + q.val, by omega⟩ ⟨h.val * 64 + d.val, by omega⟩) * X (ix3 b (near n j) ⟨1024 + h.val / 8 * 64 + d.val, by omega⟩)) * Ideal.ofBits .f32 0x3E000000#32 + B (ix3 h q j)
  else ⊥

/-- The attention of query `q` of block `n` of sequence `b`, head `h`, at lane `d`. -/
def attn (X : Acts) (K : (⟨1, ![16]⟩ : Shape).Idx → EReal) (B : (⟨3, ![16, 128, 384]⟩ : Shape).Idx → EReal) (b : Fin 8) (n : Fin 32) (q : Fin 128) (h : Fin 16) (d : Fin 64) : EReal :=
  mean (score X B b n q h) (K (ix1 h)) fun j => X (ix3 b (near n j) ⟨1152 + h.val / 8 * 64 + d.val, by omega⟩)

/-- A mean is this attention when its scores are and its values are inside the sequence. -/
theorem attn_of {X : Acts} {K : (⟨1, ![16]⟩ : Shape).Idx → EReal} {B : (⟨3, ![16, 128, 384]⟩ : Shape).Idx → EReal} {b : Fin 8} {n : Fin 32} {q : Fin 128} {h : Fin 16} {d : Fin 64}
    {s v : Fin 384 → EReal} {k : EReal} (hs : ∀ j, s j = score X B b n q h j) (hk : k = K (ix1 h))
    (hv : ∀ j, Ok n j → v j = X (ix3 b (near n j) ⟨1152 + h.val / 8 * 64 + d.val, by omega⟩)) :
    mean s k v = attn X K B b n q h d := by
  subst hk
  refine mean_congr hs fun j => ?_
  by_cases o : Ok n j
  · exact .inr (hv j o)
  · exact .inl (if_neg o)

theorem near_val {n : Fin 32} {j : Fin 384} (o : Ok n j) : (near n j).val = n.val * 128 + j.val - 128 ∧ 128 ≤ n.val * 128 + j.val ∧ n.val * 128 + j.val < 4224 := by
  obtain ⟨h1, h2⟩ := o
  have hn := n.isLt
  have hj := j.isLt
  refine ⟨Nat.mod_eq_of_lt ?_, ?_, ?_⟩ <;> omega

section Last
variable {n0 n1 n2 n3 n4 n5 : Nat}

/-- The index over `j` in the last of six axes. -/
theorem lift_last (h : (⟨6, ![n0, n1, n2, n3, n4, n5]⟩ : Shape).Reduces [5] ⟨5, ![n0, n1, n2, n3, n4]⟩) (a : Fin n0) (b : Fin n1) (c : Fin n2) (d : Fin n3) (e : Fin n4) (k : Fin n5) :
    h.lift (ix5 a b c d e) k = ix6 a b c d e k := by
  funext x; apply Fin.ext
  match x with
  | ⟨0, _⟩ => rfl
  | ⟨1, _⟩ => rfl
  | ⟨2, _⟩ => rfl
  | ⟨3, _⟩ => rfl
  | ⟨4, _⟩ => rfl
  | ⟨5, _⟩ => rfl

end Last

end Cert.Row

end
-- ==== Proof.Stages.lean ====
/- The reference's result as named stages of its own operations, each read at an index on the extended reals:
   the bias table, the neighbouring key and value rows, the scores, their greatest element and the weighted mean. -/
module

public import proofs.«01_k».proof.Proof.Gen.ReferenceIdeal.Run
public import proofs.«01_k».proof.Proof.Row
public import Idealize.ShloMosaic.Lib.Pipeline.ValueKit
public import Idealize.ShloMosaic.Lib.IdealHost

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- Key offset minus query offset in a block of 128 queries and its 384 neighbouring keys. -/
def rel : IVec S128x384 32 :=
  subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32))))
    (broadcastInDim S128x384 ![0, 1] bcast_S128x1_S128x384_0_1 (broadcastInDim S128x1 ![0] bcast_S128_S128x1_0 (iotaInDim S128 32 0)))

/-- The logarithmic position of a far distance among the last eight buckets. -/
def ratio : FVec Ideal S128x384 .f32 :=
  mulf (Host.divf (Host.log (Host.divf (sitofp .f32 (maxsi (absi (negi rel)) (broadcastInDim S128x384 ![] bcast_S_S128x384 (constantI S_ 32 1#32)))) (broadcastInDim S128x384 ![] bcast_S_S128x384 (constant S_ .f32 0x41000000#32)))) (broadcastInDim S128x384 ![] bcast_S_S128x384 (id (Host.log (constant S_ .f32 0x41800000#32)))))
    (broadcastInDim S128x384 ![] bcast_S_S128x384 (constant S_ .f32 0x41000000#32))

/-- The bucket's number before the indexing's wrap of negative numbers. -/
def rawBucket : IVec S128x384 32 :=
  addi (id (select (cmpi .slt (negi rel) (broadcastInDim S128x384 ![] bcast_S_S128x384 (constantI S_ 32 0#32))) (broadcastInDim S128x384 ![] bcast_S_S128x384 (constantI S_ 32 16#32)) (broadcastInDim S128x384 ![] bcast_S_S128x384 (constantI S_ 32 0#32))))
    (select (cmpi .slt (absi (negi rel)) (broadcastInDim S128x384 ![] bcast_S_S128x384 (constantI S_ 32 8#32))) (absi (negi rel)) (minsi (addi (broadcastInDim S128x384 ![] bcast_S_S128x384 (constantI S_ 32 8#32)) (fptosi 32 ratio)) (broadcastInDim S128x384 ![] bcast_S_S128x384 (constantI S_ 32 15#32))))

/-- The bucket's number as the table is indexed by it. -/
def bucket : IVec S128x384 32 :=
  select (cmpi .slt rawBucket (broadcastInDim S128x384 ![] bcast_S_S128x384 (constantI S_ 32 0#32))) (addi rawBucket (broadcastInDim S128x384 ![] bcast_S_S128x384 (constantI S_ 32 32#32))) rawBucket

/-- The bias of head, query and key: the table's row of the bucket, and the mask outside the window of 128. -/
def biasTab (T : FVec Ideal S32x16 .f32) : FVec Ideal S16x128x384 .f32 :=
  select (broadcastInDim S16x128x384 ![1, 2] bcast_S128x384_S16x128x384_1_2 (cmpi .sle (absi rel) (broadcastInDim S128x384 ![] bcast_S_S128x384 (constantI S_ 32 128#32))))
    (transpose S16x128x384 [2, 0, 1] (Host.gather gather_S32x16_S128x384x1_S128x384x16_2_0_n_n_0_2_116 T (broadcastInDim S128x384x1 ![0, 1] bcast_S128x384_S128x384x1_0_1 bucket)) transposes_S128x384x16_S16x128x384_2_0_1)
    (broadcastInDim S16x128x384 ![] bcast_S_S16x128x384 (id (constant S_ .f32 0xF149F2CA#32)))

/-- Rows of 128 lanes as blocks of 128 rows with one block of zeros before and after. -/
def padded (Y : FVec Ideal S8x4096x128 .f32) : FVec Ideal S8x34x128x2x64 .f32 :=
  pad S8x34x128x2x64 ![0, 1, 0, 0, 0] ![0, 1, 0, 0, 0] ![0, 0, 0, 0, 0] (shapeCast _ Y shapeCasts_S8x4096x128_S8x32x128x2x64) (sitofp .f32 (constantI S_ 32 0#32)) pads_S8x32x128x2x64_S8x34x128x2x64_000_110_000_000_000 h_S_

/-- Each block's rows with the rows of the blocks before and after it. -/
def neigh (Y : FVec Ideal S8x4096x128 .f32) : FVec Ideal S8x32x384x2x64 .f32 :=
  concatenate S8x32x384x2x64 2
    [⟨S8x32x128x2x64, extractStridedSlice S8x32x128x2x64 ![0, 0, 0, 0, 0] (padded Y) slices_S8x34x128x2x64_S8x32x128x2x64_0_0_0_0_0⟩,
     ⟨S8x32x128x2x64, extractStridedSlice S8x32x128x2x64 ![0, 1, 0, 0, 0] (padded Y) slices_S8x34x128x2x64_S8x32x128x2x64_0_1_0_0_0⟩,
     ⟨S8x32x128x2x64, extractStridedSlice S8x32x128x2x64 ![0, 2, 0, 0, 0] (padded Y) slices_S8x34x128x2x64_S8x32x128x2x64_0_2_0_0_0⟩]
    concatenates_S8x32x128x2x64_S8x32x128x2x64_S8x32x128x2x64_S8x32x384x2x64_d2

/-- The position in the sequence of a block's neighbouring key. -/
def keyPos : IVec S32x384 32 :=
  addi (broadcastInDim S32x384 ![0, 1] bcast_S32x1_S32x384_0_1 (muli (subi (broadcastInDim S32x1 ![0] bcast_S32_S32x1_0 (iotaInDim S32 32 0)) (broadcastInDim S32x1 ![] bcast_S_S32x1 (constantI S_ 32 1#32))) (broadcastInDim S32x1 ![] bcast_S_S32x1 (constantI S_ 32 128#32))))
    (broadcastInDim S32x384 ![0, 1] bcast_S1x384_S32x384_0_1 (broadcastInDim S1x384 ![1] bcast_S384_S1x384_1 (iotaInDim S384 32 0)))

/-- Set where the neighbouring key is inside the sequence. -/
def inside : IVec S32x384 1 :=
  andi (cmpi .sge keyPos (broadcastInDim S32x384 ![] bcast_S_S32x384 (constantI S_ 32 0#32))) (cmpi .slt keyPos (broadcastInDim S32x384 ![] bcast_S_S32x384 (constantI S_ 32 4096#32)))

/-- The scaled products of queries and neighbouring keys, plus the bias, and minus infinity outside the sequence. -/
def score (X : FVec Ideal S8x4096x1280 .f32) (B : FVec Ideal S16x128x384 .f32) : FVec Ideal S8x32x2x8x128x384 .f32 :=
  select (broadcastInDim S8x32x2x8x128x384 ![0, 1, 2, 3, 4, 5] bcast_S1x32x1x1x1x384_S8x32x2x8x128x384_0_1_2_3_4_5 (broadcastInDim S1x32x1x1x1x384 ![1, 5] bcast_S32x384_S1x32x1x1x1x384_1_5 inside))
    (addf (mulf (transpose S8x32x2x8x128x384 [0, 1, 2, 5, 4, 3] (Host.dotGeneral dot_S8x32x384x2x64_S8x32x128x2x8x64_S8x32x2x384x128x8_4_5_2_24_013_013 none
        (neigh (extractStridedSlice S8x4096x128 ![0, 0, 1024] X slices_S8x4096x1280_S8x4096x128_0_0_1024)) (shapeCast _ (extractStridedSlice S8x4096x1024 ![0, 0, 0] X slices_S8x4096x1280_S8x4096x1024_0_0_0) shapeCasts_S8x4096x1024_S8x32x128x2x8x64)) transposes_S8x32x2x384x128x8_S8x32x2x8x128x384_0_1_2_5_4_3)
        (broadcastInDim S8x32x2x8x128x384 ![] bcast_S_S8x32x2x8x128x384 (constant S_ .f32 0x3E000000#32)))
      (broadcastInDim S8x32x2x8x128x384 ![0, 1, 2, 3, 4, 5] bcast_S1x1x2x8x128x384_S8x32x2x8x128x384_0_1_2_3_4_5 (broadcastInDim S1x1x2x8x128x384 ![2, 3, 4, 5] bcast_S2x8x128x384_S1x1x2x8x128x384_2_3_4_5 (shapeCast _ B shapeCasts_S16x128x384_S2x8x128x384))))
    (broadcastInDim S8x32x2x8x128x384 ![] bcast_S_S8x32x2x8x128x384 (id (constant S_ .f32 0xFF800000#32)))

/-- Each head's sink, over blocks and queries. -/
def sinks (K : FVec Ideal S16 .f32) : FVec Ideal S8x32x2x8x128x1 .f32 :=
  broadcastInDim S8x32x2x8x128x1 ![0, 1, 2, 3, 4, 5] bcast_S1x1x2x8x1x1_S8x32x2x8x128x1_0_1_2_3_4_5 (shapeCast _ K shapeCasts_S16_S1x1x2x8x1x1)

/-- The greatest score of each query. -/
def rowMax (S : FVec Ideal S8x32x2x8x128x384 .f32) : FVec Ideal S8x32x2x8x128 .f32 :=
  Host.reduce FloatOps.maximumf S (constant S_ .f32 0xFF800000#32) reducesTo_S8x32x2x8x128x384_S8x32x2x8x128_d5 h_S_

/-- Each query's sum. -/
def rowSum (S : FVec Ideal S8x32x2x8x128x384 .f32) : FVec Ideal S8x32x2x8x128 .f32 :=
  Host.reduceAdd S (constant S_ .f32 0x00000000#32) reducesTo_S8x32x2x8x128x384_S8x32x2x8x128_d5 h_S_

/-- The greatest of a query's scores and its sink. -/
def top (S : FVec Ideal S8x32x2x8x128x384 .f32) (K : FVec Ideal S16 .f32) : FVec Ideal S8x32x2x8x128x1 .f32 :=
  maximumf (broadcastInDim S8x32x2x8x128x1 ![0, 1, 2, 3, 4] bcast_S8x32x2x8x128_S8x32x2x8x128x1_0_1_2_3_4
    (rowMax S)) (sinks K)

/-- The weights before they are divided. -/
def weight (S : FVec Ideal S8x32x2x8x128x384 .f32) (K : FVec Ideal S16 .f32) : FVec Ideal S8x32x2x8x128x384 .f32 :=
  Host.exp (subf S (broadcastInDim S8x32x2x8x128x384 ![0, 1, 2, 3, 4, 5] bcast_S8x32x2x8x128x1_S8x32x2x8x128x384_0_1_2_3_4_5 (top S K)))

/-- The sum of the weights and of the sink's weight. -/
def denom (S : FVec Ideal S8x32x2x8x128x384 .f32) (K : FVec Ideal S16 .f32) : FVec Ideal S8x32x2x8x128x1 .f32 :=
  addf (broadcastInDim S8x32x2x8x128x1 ![0, 1, 2, 3, 4] bcast_S8x32x2x8x128_S8x32x2x8x128x1_0_1_2_3_4 (rowSum (weight S K)))
    (Host.exp (subf (sinks K) (top S K)))

/-- The weighted means of the neighbouring values, laid out as rows. -/
def mean (S : FVec Ideal S8x32x2x8x128x384 .f32) (K : FVec Ideal S16 .f32) (V : FVec Ideal S8x32x384x2x64 .f32) : FVec Ideal S32768x1024 .f32 :=
  shapeCast _ (transpose S8x32x128x2x8x64 [0, 1, 4, 2, 3, 5] (Host.divf (Host.dotGeneral dot_S8x32x2x8x128x384_S8x32x384x2x64_S8x32x2x8x128x64_5_2_34_4_012_013 none (weight S K) V)
    (broadcastInDim S8x32x2x8x128x64 ![0, 1, 2, 3, 4, 5] bcast_S8x32x2x8x128x1_S8x32x2x8x128x64_0_1_2_3_4_5 (denom S K))) transposes_S8x32x2x8x128x64_S8x32x128x2x8x64_0_1_4_2_3_5) shapeCasts_S8x32x128x2x8x64_S32768x1024

/-- The attention of queries, keys and values `X`, sinks `K` and table `T`. -/
def attn (X : FVec Ideal S8x4096x1280 .f32) (K : FVec Ideal S16 .f32) (T : FVec Ideal S32x16 .f32) : FVec Ideal S32768x1024 .f32 :=
  mean (score X (biasTab T)) K (neigh (extractStridedSlice S8x4096x128 ![0, 0, 1152] X slices_S8x4096x1280_S8x4096x128_0_0_1152))

/-- The reference's result is these stages. -/
theorem res_eq (m : (ℓ : Loc nD τ sig) → Buf (Elt Ideal) ℓ) (c : Dev nD) :
    Value.res_out0 m c = attn (m ((c.tc : Thread nD τ).loc main_arg0)) (m ((c.tc : Thread nD τ).loc main_arg1)) (m ((c.tc : Thread nD τ).loc main_arg2)) := by
  unfold Value.res_out0 Value.res_main_v108
  rfl

end Cert.ReferenceIdeal.Attn

end
-- ==== Proof.StageReads.lean ====
/- The stages of the reference's result, each read at an index on the extended reals:
   the bias table, the neighbouring key and value rows, the scores, their greatest element and the weighted mean. -/
module

public import proofs.«01_k».proof.Proof.Stages
public import proofs.«01_k».proof.Proof.Row
public import Idealize.ShloMosaic.Lib.Pipeline.ValueKit
public import Idealize.ShloMosaic.Lib.IdealHost

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- The last of six axes. -/
theorem reduces : S8x32x2x8x128x384.Reduces [5] S8x32x2x8x128 := by decide

theorem rowMax_apply (S : FVec Ideal S8x32x2x8x128x384 .f32) (b : Fin 8) (n : Fin 32) (k : Fin 2) (g : Fin 8) (q : Fin 128) :
    rowMax S (ix5 b n k g q) = (Finset.univ : Finset (Fin 384)).fold max (Ideal.ofBits .f32 0xFF800000#32) fun j => S (ix6 b n k g q j) := by
  unfold rowMax
  rw [Host.reduce_eq_fold_single FloatOps.maximumf S _ _ reduces h_S_]
  exact Finset.fold_congr fun j _ => congrArg S (Row.lift_last reduces b n k g q j)

theorem rowSum_apply (S : FVec Ideal S8x32x2x8x128x384 .f32) (b : Fin 8) (n : Fin 32) (k : Fin 2) (g : Fin 8) (q : Fin 128) :
    rowSum S (ix5 b n k g q) = ∑ j, S (ix6 b n k g q j) := by
  unfold rowSum
  rw [ValueIdx.hostReduceAdd_apply, Ideal.hostReduceAdd_single _ reduces]
  rw [show constant (F := Ideal) S_ .f32 0x00000000#32 (Shape.Idx.first h_S_) = (0 : EReal) from Ideal.ofBits_zero .f32, zero_add]
  exact Finset.sum_congr rfl fun j _ => congrArg S (Row.lift_last reduces b n k g q j)

theorem sinks_apply (K : FVec Ideal S16 .f32) (b : Fin 8) (n : Fin 32) (k : Fin 2) (g : Fin 8) (q : Fin 128) :
    sinks K (ix6 b n k g q 0) = K (ix1 ⟨k.val * 8 + g.val, by omega⟩) := by
  pointwise [sinks]

/-- A value of each query as a column. -/
theorem column_apply (Z : FVec Ideal S8x32x2x8x128 .f32) (b : Fin 8) (n : Fin 32) (k : Fin 2) (g : Fin 8) (q : Fin 128) :
    broadcastInDim S8x32x2x8x128x1 ![0, 1, 2, 3, 4] bcast_S8x32x2x8x128_S8x32x2x8x128x1_0_1_2_3_4 Z (ix6 b n k g q 0) = Z (ix5 b n k g q) := by
  pointwise

theorem top_apply (S : FVec Ideal S8x32x2x8x128x384 .f32) (K : FVec Ideal S16 .f32) (b : Fin 8) (n : Fin 32) (k : Fin 2) (g : Fin 8) (q : Fin 128) :
    top S K (ix6 b n k g q 0) = Row.top (fun j => S (ix6 b n k g q j)) (K (ix1 ⟨k.val * 8 + g.val, by omega⟩)) := by
  unfold top
  refine (ValueIdx.maximumf_apply _ _ _).trans ?_
  rw [column_apply, rowMax_apply, sinks_apply, Row.top]

theorem weight_apply (S : FVec Ideal S8x32x2x8x128x384 .f32) (K : FVec Ideal S16 .f32) (b : Fin 8) (n : Fin 32) (k : Fin 2) (g : Fin 8) (q : Fin 128) (j : Fin 384) :
    weight S K (ix6 b n k g q j) = Ideal.exp (S (ix6 b n k g q j) - Row.top (fun j => S (ix6 b n k g q j)) (K (ix1 ⟨k.val * 8 + g.val, by omega⟩))) := by
  pointwise [weight]
  rw [top_apply]

theorem denom_apply (S : FVec Ideal S8x32x2x8x128x384 .f32) (K : FVec Ideal S16 .f32) (b : Fin 8) (n : Fin 32) (k : Fin 2) (g : Fin 8) (q : Fin 128) :
    denom S K (ix6 b n k g q 0) = ∑ j, Ideal.exp (S (ix6 b n k g q j) - Row.top (fun j => S (ix6 b n k g q j)) (K (ix1 ⟨k.val * 8 + g.val, by omega⟩)))
      + Ideal.exp (K (ix1 ⟨k.val * 8 + g.val, by omega⟩) - Row.top (fun j => S (ix6 b n k g q j)) (K (ix1 ⟨k.val * 8 + g.val, by omega⟩))) := by
  pointwise [denom]
  rw [top_apply, sinks_apply, rowSum_apply]
  simp only [weight_apply]

theorem mean_apply (S : FVec Ideal S8x32x2x8x128x384 .f32) (K : FVec Ideal S16 .f32) (V : FVec Ideal S8x32x384x2x64 .f32) (r : Fin 32768) (l : Fin 1024) :
    mean S K V (ix2 r l) = Row.mean (fun j => S (ix6 ⟨r.val / 4096, by omega⟩ ⟨r.val / 128 % 32, by omega⟩ ⟨l.val / 512, by omega⟩ ⟨l.val / 64 % 8, by omega⟩ ⟨r.val % 128, by omega⟩ j))
      (K (ix1 ⟨l.val / 64, by omega⟩)) (fun j => V (ix5 ⟨r.val / 4096, by omega⟩ ⟨r.val / 128 % 32, by omega⟩ j ⟨l.val / 512, by omega⟩ ⟨l.val % 64, by omega⟩)) := by
  pointwise [mean]
  rw [denom_apply]
  simp only [weight_apply, show l.val / 512 * 8 + l.val / 64 % 8 = l.val / 64 by omega]
  rfl

theorem neigh_apply (Y : FVec Ideal S8x4096x128 .f32) (b : Fin 8) (n : Fin 32) (j : Fin 384) (k : Fin 2) (d : Fin 64) (o : Row.Ok n j) :
    neigh Y (ix5 b n j k d) = Y (ix3 b (Row.near n j) ⟨k.val * 64 + d.val, by omega⟩) := by
  obtain ⟨e, h1, h2⟩ := Row.near_val o
  obtain ⟨o1, o2⟩ := o
  have hd : ∀ (r : Nat) (hr : r < 4096), r = n.val * 128 + j.val - 128 → Y (ix3 b ⟨r, hr⟩ ⟨k.val * 64 + d.val, by omega⟩) = Y (ix3 b (Row.near n j) ⟨k.val * 64 + d.val, by omega⟩) := by
    intro r hr h
    rw [show (⟨r, hr⟩ : Fin 4096) = Row.near n j from Fin.ext (h.trans e.symm)]
  pointwise [neigh, padded]
  by_cases a1 : j.val < 128
  · rw [dif_pos a1, dif_pos (by omega)]; exact hd _ _ (by omega)
  · rw [dif_neg a1]
    by_cases a2 : j.val - 128 < 128
    · rw [dif_pos a2, dif_pos a2]; exact hd _ _ (by omega)
    · rw [dif_neg a2, dif_pos (by omega)]; exact hd _ _ (by omega)

/-- The position test in words is the test in numbers. -/
theorem inside_cases : ∀ (n : Fin 32) (j : Fin 384),
    IntOp.andi (IntOp.cmpi CmpIPredicate.sge (IntOp.addi (IntOp.muli (IntOp.subi (BitVec.ofNat 32 n.val) 1#32) 128#32) (BitVec.ofNat 32 j.val)) 0#32)
      (IntOp.cmpi CmpIPredicate.slt (IntOp.addi (IntOp.muli (IntOp.subi (BitVec.ofNat 32 n.val) 1#32) 128#32) (BitVec.ofNat 32 j.val)) 4096#32) = if Row.Ok n j then 1#1 else 0#1 := by
  decide +kernel

theorem inside_apply (n : Fin 32) (j : Fin 384) : inside (ix2 n j) = if Row.Ok n j then 1#1 else 0#1 := by
  pointwise [inside, keyPos]
  exact inside_cases n j

theorem score_apply (X : FVec Ideal S8x4096x1280 .f32) (B : FVec Ideal S16x128x384 .f32) (b : Fin 8) (n : Fin 32) (k : Fin 2) (g : Fin 8) (q : Fin 128) (j : Fin 384) :
    score X B (ix6 b n k g q j) = Row.score X B b n q ⟨k.val * 8 + g.val, by omega⟩ j := by
  pointwise [score]
  rw [inside_apply]
  unfold Row.score
  by_cases o : Row.Ok n j
  · rw [if_pos o, if_pos o]
    show _ + _ = _
    congr 2
    refine Finset.sum_congr rfl fun d _ => ?_
    rw [neigh_apply _ _ _ _ _ _ o, mul_comm]
    pointwise
    congr 3 <;> exact Fin.ext (by simp only; omega)
  · rw [if_neg o, if_neg o]
    exact Row.ofBits_negInf

/-- The reference's result at a row and a lane. -/
theorem attn_apply (X : FVec Ideal S8x4096x1280 .f32) (K : FVec Ideal S16 .f32) (T : FVec Ideal S32x16 .f32) (r : Fin 32768) (l : Fin 1024) :
    attn X K T (ix2 r l) = Row.attn X K (biasTab T) ⟨r.val / 4096, by omega⟩ ⟨r.val / 128 % 32, by omega⟩ ⟨r.val % 128, by omega⟩ ⟨l.val / 64, by omega⟩ ⟨l.val % 64, by omega⟩ := by
  unfold attn
  rw [mean_apply]
  refine Row.attn_of (fun j => ?_) rfl fun j o => ?_
  · rw [score_apply]
    congr 1; exact Fin.ext (by simp only; omega)
  · rw [neigh_apply _ _ _ _ _ _ o]
    pointwise
    congr 2; exact Fin.ext (by simp only; omega)

end Cert.ReferenceIdeal.Attn

end
-- ==== Proof.Windows.lean ====
/- What each window of the kernel holds at a grid point, read off the arguments: the queries, the key and value rows of
   the block and of its neighbours, the bias table and the sinks. -/
module

public import proofs.«01_k».proof.Proof.Gen.KernelIdeal.Value
public import proofs.«01_k».proof.Proof.StageReads
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- Where each window's block lies at a point. -/
theorem idx : ∀ t : Fin cfg0.N, win0_0.index t = ![0, 0, 0] ∧ win0_1.index t = ![t.val, 0]
    ∧ win0_2.index t = ![if t.val % 32 = 0 then t.val else t.val - 1, 8] ∧ win0_3.index t = ![t.val, 8] ∧ win0_4.index t = ![if t.val % 32 = 31 then t.val else t.val + 1, 8]
    ∧ win0_5.index t = ![if t.val % 32 = 0 then t.val else t.val - 1, 9] ∧ win0_6.index t = ![t.val, 9] ∧ win0_7.index t = ![if t.val % 32 = 31 then t.val else t.val + 1, 9]
    ∧ win0_8.index t = ![0, 0, 0] ∧ win0_9.index t = ![t.val, 0] ∧ (grid0.coords t 1).val = t.val % 32 :=
  (by decide +kernel : ∀ t : Fin grid0.N, _)

/-- The activations the kernel works on. -/
abbrev acts (c : Dev nD) : Row.Acts := m ((c.tc : Thread nD τ).loc main_arg0)
/-- The sinks. -/
abbrev sinkOf (c : Dev nD) : (⟨1, ![16]⟩ : Shape).Idx → EReal := m ((c.tc : Thread nD τ).loc main_arg1)
/-- The bias of head, query and key. -/
abbrev biasOf (c : Dev nD) : (⟨3, ![16, 128, 384]⟩ : Shape).Idx → EReal := ReferenceIdeal.Attn.biasTab (m ((c.tc : Thread nD τ).loc main_arg2))

set_option maxHeartbeats 2000000 in
/-- The activations as rows. -/
theorem rows_entry (c : Dev nD) : V m c main_v48 = shapeCast _ (m ((c.tc : Thread nD τ).loc main_arg0)) shapeCasts_S8x4096x1280_S32768x1280 := by
  unfold V
  simp only [hostOps0, hostOps0_1, hostOps0_2, hostOps0_3, hostOps0_4, hostOps0_5, hostOps0_6, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  rfl

set_option maxHeartbeats 2000000 in
/-- The bias table, a key-value head's eight heads one after the other. -/
theorem bias_entry (c : Dev nD) : V m c main_v49 = shapeCast _ (ReferenceIdeal.Attn.biasTab (m ((c.tc : Thread nD τ).loc main_arg2))) shapeCasts_S16x128x384_S2x1024x384 := by
  unfold V
  simp only [hostOps0, hostOps0_1, hostOps0_2, hostOps0_3, hostOps0_4, hostOps0_5, hostOps0_6, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  rfl

set_option maxHeartbeats 2000000 in
/-- The sinks, each over the block's queries. -/
theorem sink_entry (c : Dev nD) : V m c main_v52 = shapeCast _ (shapeCast _ (broadcastInDim S16x128 ![0] bcast_S16_S16x128_0 (m ((c.tc : Thread nD τ).loc main_arg1))) shapeCasts_S16x128_S2048) shapeCasts_S2048_S2x1024x1 := by
  unfold V
  simp only [hostOps0, hostOps0_1, hostOps0_2, hostOps0_3, hostOps0_4, hostOps0_5, hostOps0_6, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  rfl

theorem sink_apply (c : Dev nD) (t : Fin cfg0.N) (k : Fin 2) (r : Fin 1024) : iblk m c 0 t (ix3 k r 0) = sinkOf m c (ix1 ⟨k.val * 8 + r.val / 128, by omega⟩) := by
  have h : iblk m c 0 t (ix3 k r 0) = V m c main_v52 (ix3 k r 0) := by blk_ext [iblk, idx t]
  rw [h, sink_entry]
  pointwise

theorem bias_apply (c : Dev nD) (t : Fin cfg0.N) (k : Fin 2) (r : Fin 1024) (j : Fin 384) : iblk m c 8 t (ix3 k r j) = biasOf m c (ix3 ⟨k.val * 8 + r.val / 128, by omega⟩ ⟨r.val % 128, by omega⟩ j) := by
  have h : iblk m c 8 t (ix3 k r j) = V m c main_v49 (ix3 k r j) := by blk_ext [iblk, idx t]
  rw [h, bias_entry]; unfold biasOf
  generalize ReferenceIdeal.Attn.biasTab (m ((c.tc : Thread nD τ).loc main_arg2)) = B
  pointwise

theorem rows_cast (X : FVec Ideal S8x4096x1280 .f32) (r : Fin 32768) (l : Fin 1280) :
    shapeCast S32768x1280 X shapeCasts_S8x4096x1280_S32768x1280 (ix2 r l) = X (ix3 ⟨r.val / 4096, by omega⟩ ⟨r.val % 4096, by omega⟩ l) := by
  pointwise

theorem rows_apply (c : Dev nD) (r : Fin 32768) (l : Fin 1280) : V m c main_v48 (ix2 r l) = acts m c (ix3 ⟨r.val / 4096, by omega⟩ ⟨r.val % 4096, by omega⟩ l) :=
  (congrFun (rows_entry m c) _).trans (rows_cast _ r l)

/-- A row of the activations by its sequence and its place there. -/
theorem rows_at (c : Dev nD) {r : Nat} (hr : r < 32768) {l : Nat} (hl : l < 1280) (b : Fin 8) (p : Fin 4096) (l' : Fin 1280) (h : r = b.val * 4096 + p.val) (e : l = l'.val) :
    V m c main_v48 (ix2 ⟨r, hr⟩ ⟨l, hl⟩) = acts m c (ix3 b p l') := by
  subst h; subst e
  rw [rows_apply]
  rw [show (⟨(b.val * 4096 + p.val) / 4096, by omega⟩ : Fin 8) = b from Fin.ext (by simp only; omega), show (⟨(b.val * 4096 + p.val) % 4096, by omega⟩ : Fin 4096) = p from Fin.ext (by simp only; omega)]

theorem q_apply (c : Dev nD) (t : Fin cfg0.N) (ht : t.val < 256) (a : Fin 128) (l : Fin 1024) : X0_1 m c t (ix2 a l) = V m c main_v48 (ix2 ⟨t.val * 128 + a.val, by omega⟩ ⟨l.val, by omega⟩) := by
  unfold X0_1 Pipeline.Window.fill
  rw [dif_pos (moved0_1 t (ix2 a l))]
  blk_ext [iblk, idx t]

theorem k_here (c : Dev nD) (t : Fin cfg0.N) (ht : t.val < 256) (a : Fin 128) (l : Fin 128) : iblk m c 3 t (ix2 a l) = V m c main_v48 (ix2 ⟨t.val * 128 + a.val, by omega⟩ ⟨1024 + l.val, by omega⟩) := by
  blk_ext [iblk, idx t]

theorem k_prev (c : Dev nD) (t : Fin cfg0.N) (ht : t.val < 256) (h0 : t.val % 32 ≠ 0) (a : Fin 128) (l : Fin 128) : iblk m c 2 t (ix2 a l) = V m c main_v48 (ix2 ⟨(t.val - 1) * 128 + a.val, by omega⟩ ⟨1024 + l.val, by omega⟩) := by
  have h : (if t.val % 32 = 0 then t.val else t.val - 1) = t.val - 1 := if_neg h0
  have e := idx t
  rw [h] at e
  blk_ext [iblk, e]

theorem k_next (c : Dev nD) (t : Fin cfg0.N) (ht : t.val < 256) (h0 : t.val % 32 ≠ 31) (a : Fin 128) (l : Fin 128) : iblk m c 4 t (ix2 a l) = V m c main_v48 (ix2 ⟨(t.val + 1) * 128 + a.val, by omega⟩ ⟨1024 + l.val, by omega⟩) := by
  have h : (if t.val % 32 = 31 then t.val else t.val + 1) = t.val + 1 := if_neg h0
  have e := idx t
  rw [h] at e
  blk_ext [iblk, e]

theorem v_here (c : Dev nD) (t : Fin cfg0.N) (ht : t.val < 256) (a : Fin 128) (l : Fin 128) : iblk m c 6 t (ix2 a l) = V m c main_v48 (ix2 ⟨t.val * 128 + a.val, by omega⟩ ⟨1152 + l.val, by omega⟩) := by
  blk_ext [iblk, idx t]

theorem v_prev (c : Dev nD) (t : Fin cfg0.N) (ht : t.val < 256) (h0 : t.val % 32 ≠ 0) (a : Fin 128) (l : Fin 128) : iblk m c 5 t (ix2 a l) = V m c main_v48 (ix2 ⟨(t.val - 1) * 128 + a.val, by omega⟩ ⟨1152 + l.val, by omega⟩) := by
  have h : (if t.val % 32 = 0 then t.val else t.val - 1) = t.val - 1 := if_neg h0
  have e := idx t
  rw [h] at e
  blk_ext [iblk, e]

theorem v_next (c : Dev nD) (t : Fin cfg0.N) (ht : t.val < 256) (h0 : t.val % 32 ≠ 31) (a : Fin 128) (l : Fin 128) : iblk m c 7 t (ix2 a l) = V m c main_v48 (ix2 ⟨(t.val + 1) * 128 + a.val, by omega⟩ ⟨1152 + l.val, by omega⟩) := by
  have h : (if t.val % 32 = 31 then t.val else t.val + 1) = t.val + 1 := if_neg h0
  have e := idx t
  rw [h] at e
  blk_ext [iblk, e]

end Cert.KernelIdeal.Attn

end
-- ==== Proof.Block.lean ====
/- One block of the kernel on the extended reals: what its pieces compute, as one query's attention over the rows of three blocks. -/
module

public import proofs.«01_k».proof.Proof.Gen.KernelIdeal.Value
public import proofs.«01_k».proof.Proof.Row
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem

/-- The rows of three blocks, one after the other. -/
def three (a b c : FVec Ideal S128x128 .f32) (j : Fin 384) (l : Fin 128) : EReal :=
  if h : j.val < 128 then a (ix2 ⟨j.val, h⟩ l) else if h : j.val - 128 < 128 then b (ix2 ⟨j.val - 128, h⟩ l) else c (ix2 ⟨j.val - 128 - 128, by omega⟩ l)

theorem keys_apply (a b c : FVec Ideal S128x128 .f32) (j : Fin 384) (l : Fin 128) : k0_pay8 (F := Ideal) a b c (ix2 j l) = three a b c j l := by
  pointwise [k0_pay8]
  rfl

theorem values_apply (a b c : FVec Ideal S128x128 .f32) (j : Fin 384) (l : Fin 128) : k0_pay9 (F := Ideal) a b c (ix2 j l) = three a b c j l := by
  pointwise [k0_pay9]
  rfl

/-- The block's test of its keys in words is the test in numbers. -/
theorem valid_cases : ∀ (n : Fin 32) (j : Fin 384),
    IntOp.andi (IntOp.ori (IntOp.cmpi CmpIPredicate.sge (BitVec.ofNat 32 j.val) 128#32) (Scalar.cmpi CmpIPredicate.sgt (BitVec.ofNat 32 n.val) 0#32))
      (IntOp.ori (IntOp.cmpi CmpIPredicate.slt (BitVec.ofNat 32 j.val) 256#32) (Scalar.cmpi CmpIPredicate.slt (BitVec.ofNat 32 n.val) 31#32)) = if Row.Ok n j then 1#1 else 0#1 := by
  decide +kernel

theorem valid_apply (i : grid0.Coords) (n : Fin 32) (h : (i 1).val = n.val) (j : Fin 384) : k0_pay10 i (ix2 0 j) = if Row.Ok n j then 1#1 else 0#1 := by
  pointwise [k0_pay10]
  rw [h]
  exact valid_cases n j

/-- The masked score of a row: scaled, with its bias, or minus infinity. -/
def masked (M : IVec S1x384 1) (s : FVec Ideal S1024x384 .f32) (b : FVec Ideal S1x1024x384 .f32) (r : Fin 1024) (j : Fin 384) : EReal :=
  if M (ix2 0 j) = 1#1 then s (ix2 r j) * Ideal.ofBits .f32 0x3E000000#32 + b (ix3 0 r j) else ⊥

theorem masked_first (M : IVec S1x384 1) (s : FVec Ideal S1024x384 .f32) (b : FVec Ideal S1x1024x384 .f32) (r : Fin 1024) (j : Fin 384) :
    k0_pay16 M s b (ix2 r j) = masked M s b r j := by
  pointwise [k0_pay16]
  rfl

theorem masked_second (M : IVec S1x384 1) (s : FVec Ideal S1024x384 .f32) (b : FVec Ideal S1x1024x384 .f32) (r : Fin 1024) (j : Fin 384) :
    k0_pay22 M s b (ix2 r j) = masked M s b r j := by
  pointwise [k0_pay22]
  rfl

theorem top_first (M : IVec S1x384 1) (s : FVec Ideal S1024x384 .f32) (b : FVec Ideal S1x1024x384 .f32) (k : FVec Ideal S1x1024x1 .f32) (r : Fin 1024) :
    k0_pay18 M s b k (ix2 r 0) = Row.top (masked M s b r) (k (ix3 0 r 0)) := by
  pointwise [k0_pay18, k0_pay17]
  simp only [masked_first]
  rfl

theorem top_second (M : IVec S1x384 1) (s : FVec Ideal S1024x384 .f32) (b : FVec Ideal S1x1024x384 .f32) (k : FVec Ideal S1x1024x1 .f32) (r : Fin 1024) :
    k0_pay24 M s b k (ix2 r 0) = Row.top (masked M s b r) (k (ix3 0 r 0)) := by
  pointwise [k0_pay24, k0_pay23]
  simp only [masked_second]
  rfl

/-- The first key-value head's rows. -/
theorem mean_first (M : IVec S1x384 1) (s : FVec Ideal S1024x384 .f32) (b : FVec Ideal S1x1024x384 .f32) (k : FVec Ideal S1x1024x1 .f32) (v : FVec Ideal S384x128 .bf16) (r : Fin 1024) (d : Fin 64) :
    k0_pay26 v (k0_pay20 M s b k) (k0_pay21 M s b k) (ix2 r d) = Row.mean (masked M s b r) (k (ix3 0 r 0)) fun j => v (ix2 j ⟨d.val, by omega⟩) := by
  pointwise [k0_pay26, k0_pay20, k0_pay21, k0_pay19, k0_pay17]
  simp only [masked_first, top_first]
  rfl

/-- The second key-value head's rows. -/
theorem mean_second (M : IVec S1x384 1) (s : FVec Ideal S1024x384 .f32) (b : FVec Ideal S1x1024x384 .f32) (k : FVec Ideal S1x1024x1 .f32) (v : FVec Ideal S384x128 .bf16) (r : Fin 1024) (d : Fin 64) :
    k0_pay35 v (k0_pay23 k) (k0_pay24 M s b k) (k0_pay25 M s b k) (ix2 r d) = Row.mean (masked M s b r) (k (ix3 0 r 0)) fun j => v (ix2 j ⟨64 + d.val, by omega⟩) := by
  pointwise [k0_pay35, k0_pay25, k0_pay23]
  simp only [masked_second, top_second]
  rfl

/-- The queries of eight heads, one head's rows after the other. -/
def stacked (q : FVec Ideal S128x1024 .f32) (o : Nat) (ho : o + 512 ≤ 1024) (r : Fin 1024) (x : Fin 64) : EReal :=
  q (ix2 ⟨r.val % 128, by omega⟩ ⟨o + r.val / 128 * 64 + x.val, by omega⟩)

/-- The products of the first eight heads' queries and the first half of each key. -/
theorem scores_first (q : FVec Ideal S128x1024 .f32) (k : FVec Ideal S384x128 .bf16) (p0 p1 p2 p3 p4 p5 p6 p7 : FVec Ideal S128x64 .f32)
    (h0 : ∀ (a : Fin 128) (x : Fin 64), p0 (ix2 a x) = q (ix2 a ⟨0 + x.val, by omega⟩))
    (h1 : ∀ (a : Fin 128) (x : Fin 64), p1 (ix2 a x) = q (ix2 a ⟨64 + x.val, by omega⟩))
    (h2 : ∀ (a : Fin 128) (x : Fin 64), p2 (ix2 a x) = q (ix2 a ⟨128 + x.val, by omega⟩))
    (h3 : ∀ (a : Fin 128) (x : Fin 64), p3 (ix2 a x) = q (ix2 a ⟨192 + x.val, by omega⟩))
    (h4 : ∀ (a : Fin 128) (x : Fin 64), p4 (ix2 a x) = q (ix2 a ⟨256 + x.val, by omega⟩))
    (h5 : ∀ (a : Fin 128) (x : Fin 64), p5 (ix2 a x) = q (ix2 a ⟨320 + x.val, by omega⟩))
    (h6 : ∀ (a : Fin 128) (x : Fin 64), p6 (ix2 a x) = q (ix2 a ⟨384 + x.val, by omega⟩))
    (h7 : ∀ (a : Fin 128) (x : Fin 64), p7 (ix2 a x) = q (ix2 a ⟨448 + x.val, by omega⟩))
    (r : Fin 1024) (j : Fin 384) :
    k0_pay14 k (k0_pay11 p0) (k0_pay12 p1) (k0_pay13 p2) p3 p4 p5 p6 p7 (ix2 r j) = ∑ x : Fin 64, stacked q 0 (by omega) r x * k (ix2 j ⟨x.val, by omega⟩) := by
  pointwise [k0_pay14, k0_pay13, k0_pay12, k0_pay11]
  refine Finset.sum_congr rfl fun x _ => ?_
  congr 1
  simp only [h0, h1, h2, h3, h4, h5, h6, h7, stacked]
  split_ifs <;> congr 2 <;> exact Fin.ext (by simp only; omega)

/-- The products of the last eight heads' queries and the second half of each key. -/
theorem scores_second (q : FVec Ideal S128x1024 .f32) (k : FVec Ideal S384x128 .bf16) (p0 p1 p2 p3 p4 p5 p6 p7 : FVec Ideal S128x64 .f32)
    (h0 : ∀ (a : Fin 128) (x : Fin 64), p0 (ix2 a x) = q (ix2 a ⟨512 + x.val, by omega⟩))
    (h1 : ∀ (a : Fin 128) (x : Fin 64), p1 (ix2 a x) = q (ix2 a ⟨576 + x.val, by omega⟩))
    (h2 : ∀ (a : Fin 128) (x : Fin 64), p2 (ix2 a x) = q (ix2 a ⟨640 + x.val, by omega⟩))
    (h3 : ∀ (a : Fin 128) (x : Fin 64), p3 (ix2 a x) = q (ix2 a ⟨704 + x.val, by omega⟩))
    (h4 : ∀ (a : Fin 128) (x : Fin 64), p4 (ix2 a x) = q (ix2 a ⟨768 + x.val, by omega⟩))
    (h5 : ∀ (a : Fin 128) (x : Fin 64), p5 (ix2 a x) = q (ix2 a ⟨832 + x.val, by omega⟩))
    (h6 : ∀ (a : Fin 128) (x : Fin 64), p6 (ix2 a x) = q (ix2 a ⟨896 + x.val, by omega⟩))
    (h7 : ∀ (a : Fin 128) (x : Fin 64), p7 (ix2 a x) = q (ix2 a ⟨960 + x.val, by omega⟩))
    (r : Fin 1024) (j : Fin 384) :
    k0_pay15 k p0 p1 p2 p3 p4 p5 p6 p7 (ix2 r j) = ∑ x : Fin 64, stacked q 512 (by omega) r x * k (ix2 j ⟨64 + x.val, by omega⟩) := by
  pointwise [k0_pay15]
  refine Finset.sum_congr rfl fun x _ => ?_
  congr 1
  simp only [h0, h1, h2, h3, h4, h5, h6, h7, stacked]
  split_ifs <;> congr 2 <;> exact Fin.ext (by simp only; omega)

end Cert.KernelIdeal.Attn

end
-- ==== Proof.Output.lean ====
/- The kernel's output array: every row and lane is the attention of its query, head and lane. -/
module

public import proofs.«01_k».proof.Proof.Windows
public import proofs.«01_k».proof.Proof.Block
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- A point's sequence. -/
abbrev seqOf (t : Fin cfg0.N) (ht : t.val < 256) : Fin 8 := ⟨t.val / 32, by omega⟩
/-- A point's block of the sequence. -/
abbrev blkOf (t : Fin cfg0.N) : Fin 32 := ⟨t.val % 32, by omega⟩

/-- The key rows of the three blocks, inside the sequence. -/
theorem three_keys (c : Dev nD) (t : Fin cfg0.N) (ht : t.val < 256) (j : Fin 384) (l : Fin 128) (l' : Fin 1280) (e : 1024 + l.val = l'.val) (o : Row.Ok (blkOf t) j) :
    three (iblk m c 2 t) (iblk m c 3 t) (iblk m c 4 t) j l = acts m c (ix3 (seqOf t ht) (Row.near (blkOf t) j) l') := by
  obtain ⟨n, h1, h2⟩ := Row.near_val o
  obtain ⟨o1, o2⟩ := o
  simp only at n h1 h2 o1 o2
  unfold three
  split
  · rw [k_prev m c t ht (by omega)]; exact rows_at m c _ _ _ _ _ (by rw [n]; simp only; omega) e
  · split
    · rw [k_here m c t ht]; exact rows_at m c _ _ _ _ _ (by rw [n]; simp only; omega) e
    · rw [k_next m c t ht (by omega)]; exact rows_at m c _ _ _ _ _ (by rw [n]; simp only; omega) e

/-- The value rows of the three blocks, inside the sequence. -/
theorem three_values (c : Dev nD) (t : Fin cfg0.N) (ht : t.val < 256) (j : Fin 384) (l : Fin 128) (l' : Fin 1280) (e : 1152 + l.val = l'.val) (o : Row.Ok (blkOf t) j) :
    three (iblk m c 5 t) (iblk m c 6 t) (iblk m c 7 t) j l = acts m c (ix3 (seqOf t ht) (Row.near (blkOf t) j) l') := by
  obtain ⟨n, h1, h2⟩ := Row.near_val o
  obtain ⟨o1, o2⟩ := o
  simp only at n h1 h2 o1 o2
  unfold three
  split
  · rw [v_prev m c t ht (by omega)]; exact rows_at m c _ _ _ _ _ (by rw [n]; simp only; omega) e
  · split
    · rw [v_here m c t ht]; exact rows_at m c _ _ _ _ _ (by rw [n]; simp only; omega) e
    · rw [v_next m c t ht (by omega)]; exact rows_at m c _ _ _ _ _ (by rw [n]; simp only; omega) e

/-- The first key-value head's products at a point. -/
def raw0 (c : Dev nD) (t : Fin cfg0.N) : FVec Ideal S1024x384 .f32 :=
  k0_pay14 (k0_pay8 (iblk m c 2 t) (iblk m c 3 t) (iblk m c 4 t)) (k0_pay11 (View.ld (X0_1 m c t) (Rect.unit ![0, 0] ![128, 64] inb_S128x1024_S128x64_0_0))) (k0_pay12 (View.ld (X0_1 m c t) (Rect.unit ![0, 64] ![128, 64] inb_S128x1024_S128x64_0_64))) (k0_pay13 (View.ld (X0_1 m c t) (Rect.unit ![0, 128] ![128, 64] inb_S128x1024_S128x64_0_128))) (View.ld (X0_1 m c t) (Rect.unit ![0, 192] ![128, 64] inb_S128x1024_S128x64_0_192)) (View.ld (X0_1 m c t) (Rect.unit ![0, 256] ![128, 64] inb_S128x1024_S128x64_0_256)) (View.ld (X0_1 m c t) (Rect.unit ![0, 320] ![128, 64] inb_S128x1024_S128x64_0_320)) (View.ld (X0_1 m c t) (Rect.unit ![0, 384] ![128, 64] inb_S128x1024_S128x64_0_384)) (View.ld (X0_1 m c t) (Rect.unit ![0, 448] ![128, 64] inb_S128x1024_S128x64_0_448))

theorem raw0_apply (c : Dev nD) (t : Fin cfg0.N) (r : Fin 1024) (j : Fin 384) :
    raw0 m c t (ix2 r j) = ∑ x : Fin 64, stacked (X0_1 m c t) 0 (by omega) r x * three (iblk m c 2 t) (iblk m c 3 t) (iblk m c 4 t) j ⟨x.val, by omega⟩ := by
  unfold raw0
  refine (scores_first (X0_1 m c t) _ _ _ _ _ _ _ _ _ ?_ ?_ ?_ ?_ ?_ ?_ ?_ ?_ r j).trans ?_
  · intro a x; pointwise
  · intro a x; pointwise
  · intro a x; pointwise
  · intro a x; pointwise
  · intro a x; pointwise
  · intro a x; pointwise
  · intro a x; pointwise
  · intro a x; pointwise
  simp only [keys_apply]

set_option maxHeartbeats 1000000 in
theorem score0_apply (c : Dev nD) (t : Fin cfg0.N) (ht : t.val < 256) (r : Fin 1024) (j : Fin 384) :
    masked (k0_pay10 (grid0.coords t)) (raw0 m c t) (View.ld (iblk m c 8 t) (Rect.unit ![0, 0, 0] ![1, 1024, 384] inb_S2x1024x384_S1x1024x384_0_0_0)) r j
      = Row.score (acts m c) (biasOf m c) (seqOf t ht) (blkOf t) ⟨r.val % 128, by omega⟩ ⟨0 * 8 + r.val / 128, by omega⟩ j := by
  unfold masked Row.score
  obtain ⟨-, -, -, -, -, -, -, -, -, -, hi⟩ := idx t
  rw [valid_apply _ (blkOf t) hi]
  by_cases o : Row.Ok (blkOf t) j
  · rw [if_pos o, if_pos rfl, if_pos o, raw0_apply]
    have hb : View.ld (iblk m c 8 t) (Rect.unit ![0, 0, 0] ![1, 1024, 384] inb_S2x1024x384_S1x1024x384_0_0_0) (ix3 0 r j) = biasOf m c (ix3 ⟨0 * 8 + r.val / 128, by omega⟩ ⟨r.val % 128, by omega⟩ j) := by
      refine Eq.trans ?_ (bias_apply m c t 0 r j)
      generalize iblk m c 8 t = B
      pointwise
    have hs : ∀ x : Fin 64, stacked (X0_1 m c t) 0 (by omega) r x = acts m c (ix3 (seqOf t ht) ⟨t.val % 32 * 128 + r.val % 128, by omega⟩ ⟨(0 * 8 + r.val / 128) * 64 + x.val, by omega⟩) := by
      intro x
      unfold stacked
      rw [q_apply m c t ht]
      exact rows_at m c _ _ _ _ _ (by simp only; omega) (by simp only; omega)
    have hk : ∀ x : Fin 64, three (iblk m c 2 t) (iblk m c 3 t) (iblk m c 4 t) j ⟨x.val, by omega⟩ = acts m c (ix3 (seqOf t ht) (Row.near (blkOf t) j) ⟨1024 + (0 * 8 + r.val / 128) / 8 * 64 + x.val, by omega⟩) := by
      intro x
      exact three_keys m c t ht j _ _ (by simp only; omega) o
    rw [hb]
    simp only [hs, hk]
  · rw [if_neg o, if_neg o, if_neg (by decide)]

/-- The first key-value head's rows at a point. -/
theorem out0_apply (c : Dev nD) (t : Fin cfg0.N) (ht : t.val < 256) (r : Fin 1024) (d : Fin 64) :
    Row.mean (masked (k0_pay10 (grid0.coords t)) (raw0 m c t) (View.ld (iblk m c 8 t) (Rect.unit ![0, 0, 0] ![1, 1024, 384] inb_S2x1024x384_S1x1024x384_0_0_0)) r)
        (View.ld (iblk m c 0 t) (Rect.unit ![0, 0, 0] ![1, 1024, 1] inb_S2x1024x1_S1x1024x1_0_0_0) (ix3 0 r 0))
        (fun j => k0_pay9 (F := Ideal) (iblk m c 5 t) (iblk m c 6 t) (iblk m c 7 t) (ix2 j ⟨d.val, by omega⟩))
      = Row.attn (acts m c) (sinkOf m c) (biasOf m c) (seqOf t ht) (blkOf t) ⟨r.val % 128, by omega⟩ ⟨0 * 8 + r.val / 128, by omega⟩ d := by
  refine Row.attn_of (fun j => score0_apply m c t ht r j) ?_ fun j o => ?_
  · refine Eq.trans ?_ (sink_apply m c t 0 r)
    pointwise
  · rw [values_apply]
    exact three_values m c t ht j _ _ (by simp only; omega) o

/-- The second key-value head's products at a point. -/
def raw1 (c : Dev nD) (t : Fin cfg0.N) : FVec Ideal S1024x384 .f32 :=
  k0_pay15 (k0_pay8 (iblk m c 2 t) (iblk m c 3 t) (iblk m c 4 t)) (View.ld (X0_1 m c t) (Rect.unit ![0, 512] ![128, 64] inb_S128x1024_S128x64_0_512)) (View.ld (X0_1 m c t) (Rect.unit ![0, 576] ![128, 64] inb_S128x1024_S128x64_0_576)) (View.ld (X0_1 m c t) (Rect.unit ![0, 640] ![128, 64] inb_S128x1024_S128x64_0_640)) (View.ld (X0_1 m c t) (Rect.unit ![0, 704] ![128, 64] inb_S128x1024_S128x64_0_704)) (View.ld (X0_1 m c t) (Rect.unit ![0, 768] ![128, 64] inb_S128x1024_S128x64_0_768)) (View.ld (X0_1 m c t) (Rect.unit ![0, 832] ![128, 64] inb_S128x1024_S128x64_0_832)) (View.ld (X0_1 m c t) (Rect.unit ![0, 896] ![128, 64] inb_S128x1024_S128x64_0_896)) (View.ld (X0_1 m c t) (Rect.unit ![0, 960] ![128, 64] inb_S128x1024_S128x64_0_960))

theorem raw1_apply (c : Dev nD) (t : Fin cfg0.N) (r : Fin 1024) (j : Fin 384) :
    raw1 m c t (ix2 r j) = ∑ x : Fin 64, stacked (X0_1 m c t) 512 (by omega) r x * three (iblk m c 2 t) (iblk m c 3 t) (iblk m c 4 t) j ⟨64 + x.val, by omega⟩ := by
  unfold raw1
  refine (scores_second (X0_1 m c t) _ _ _ _ _ _ _ _ _ ?_ ?_ ?_ ?_ ?_ ?_ ?_ ?_ r j).trans ?_
  · intro a x; pointwise
  · intro a x; pointwise
  · intro a x; pointwise
  · intro a x; pointwise
  · intro a x; pointwise
  · intro a x; pointwise
  · intro a x; pointwise
  · intro a x; pointwise
  simp only [keys_apply]

set_option maxHeartbeats 1000000 in
theorem score1_apply (c : Dev nD) (t : Fin cfg0.N) (ht : t.val < 256) (r : Fin 1024) (j : Fin 384) :
    masked (k0_pay10 (grid0.coords t)) (raw1 m c t) (View.ld (iblk m c 8 t) (Rect.unit ![1, 0, 0] ![1, 1024, 384] inb_S2x1024x384_S1x1024x384_1_0_0)) r j
      = Row.score (acts m c) (biasOf m c) (seqOf t ht) (blkOf t) ⟨r.val % 128, by omega⟩ ⟨1 * 8 + r.val / 128, by omega⟩ j := by
  unfold masked Row.score
  obtain ⟨-, -, -, -, -, -, -, -, -, -, hi⟩ := idx t
  rw [valid_apply _ (blkOf t) hi]
  by_cases o : Row.Ok (blkOf t) j
  · rw [if_pos o, if_pos rfl, if_pos o, raw1_apply]
    have hb : View.ld (iblk m c 8 t) (Rect.unit ![1, 0, 0] ![1, 1024, 384] inb_S2x1024x384_S1x1024x384_1_0_0) (ix3 0 r j) = biasOf m c (ix3 ⟨1 * 8 + r.val / 128, by omega⟩ ⟨r.val % 128, by omega⟩ j) := by
      refine Eq.trans ?_ (bias_apply m c t 1 r j)
      generalize iblk m c 8 t = B
      pointwise
    have hs : ∀ x : Fin 64, stacked (X0_1 m c t) 512 (by omega) r x = acts m c (ix3 (seqOf t ht) ⟨t.val % 32 * 128 + r.val % 128, by omega⟩ ⟨(1 * 8 + r.val / 128) * 64 + x.val, by omega⟩) := by
      intro x
      unfold stacked
      rw [q_apply m c t ht]
      exact rows_at m c _ _ _ _ _ (by simp only; omega) (by simp only; omega)
    have hk : ∀ x : Fin 64, three (iblk m c 2 t) (iblk m c 3 t) (iblk m c 4 t) j ⟨64 + x.val, by omega⟩ = acts m c (ix3 (seqOf t ht) (Row.near (blkOf t) j) ⟨1024 + (1 * 8 + r.val / 128) / 8 * 64 + x.val, by omega⟩) := by
      intro x
      exact three_keys m c t ht j _ _ (by simp only; omega) o
    rw [hb]
    simp only [hs, hk]
  · rw [if_neg o, if_neg o, if_neg (by decide)]

/-- The second key-value head's rows at a point. -/
theorem out1_apply (c : Dev nD) (t : Fin cfg0.N) (ht : t.val < 256) (r : Fin 1024) (d : Fin 64) :
    Row.mean (masked (k0_pay10 (grid0.coords t)) (raw1 m c t) (View.ld (iblk m c 8 t) (Rect.unit ![1, 0, 0] ![1, 1024, 384] inb_S2x1024x384_S1x1024x384_1_0_0)) r)
        (View.ld (iblk m c 0 t) (Rect.unit ![1, 0, 0] ![1, 1024, 1] inb_S2x1024x1_S1x1024x1_1_0_0) (ix3 0 r 0))
        (fun j => k0_pay9 (F := Ideal) (iblk m c 5 t) (iblk m c 6 t) (iblk m c 7 t) (ix2 j ⟨64 + d.val, by omega⟩))
      = Row.attn (acts m c) (sinkOf m c) (biasOf m c) (seqOf t ht) (blkOf t) ⟨r.val % 128, by omega⟩ ⟨1 * 8 + r.val / 128, by omega⟩ d := by
  refine Row.attn_of (fun j => score1_apply m c t ht r j) ?_ fun j o => ?_
  · refine Eq.trans ?_ (sink_apply m c t 1 r)
    pointwise
  · rw [values_apply]
    exact three_values m c t ht j _ _ (by simp only; omega) o

/-! ### A head's rows of its key-value head's -/

theorem slice0_0 (a : FVec Ideal S384x128 .bf16) (b : FVec Ideal S1024x1 .f32) (p : FVec Ideal S1024x384 .bf16) (q : Fin 128) (d : Fin 64) :
    k0_pay27 a b p (ix2 q d) = k0_pay26 a b p (ix2 ⟨0 + q.val, by omega⟩ d) := by
  pointwise [k0_pay27]

theorem slice0_1 (a : FVec Ideal S384x128 .bf16) (b : FVec Ideal S1024x1 .f32) (p : FVec Ideal S1024x384 .bf16) (q : Fin 128) (d : Fin 64) :
    k0_pay28 a b p (ix2 q d) = k0_pay26 a b p (ix2 ⟨128 + q.val, by omega⟩ d) := by
  pointwise [k0_pay28]

theorem slice0_2 (a : FVec Ideal S384x128 .bf16) (b : FVec Ideal S1024x1 .f32) (p : FVec Ideal S1024x384 .bf16) (q : Fin 128) (d : Fin 64) :
    k0_pay29 a b p (ix2 q d) = k0_pay26 a b p (ix2 ⟨256 + q.val, by omega⟩ d) := by
  pointwise [k0_pay29]

theorem slice0_3 (a : FVec Ideal S384x128 .bf16) (b : FVec Ideal S1024x1 .f32) (p : FVec Ideal S1024x384 .bf16) (q : Fin 128) (d : Fin 64) :
    k0_pay30 a b p (ix2 q d) = k0_pay26 a b p (ix2 ⟨384 + q.val, by omega⟩ d) := by
  pointwise [k0_pay30]

theorem slice0_4 (a : FVec Ideal S384x128 .bf16) (b : FVec Ideal S1024x1 .f32) (p : FVec Ideal S1024x384 .bf16) (q : Fin 128) (d : Fin 64) :
    k0_pay31 a b p (ix2 q d) = k0_pay26 a b p (ix2 ⟨512 + q.val, by omega⟩ d) := by
  pointwise [k0_pay31]

theorem slice0_5 (a : FVec Ideal S384x128 .bf16) (b : FVec Ideal S1024x1 .f32) (p : FVec Ideal S1024x384 .bf16) (q : Fin 128) (d : Fin 64) :
    k0_pay32 a b p (ix2 q d) = k0_pay26 a b p (ix2 ⟨640 + q.val, by omega⟩ d) := by
  pointwise [k0_pay32]

theorem slice0_6 (a : FVec Ideal S384x128 .bf16) (b : FVec Ideal S1024x1 .f32) (p : FVec Ideal S1024x384 .bf16) (q : Fin 128) (d : Fin 64) :
    k0_pay33 a b p (ix2 q d) = k0_pay26 a b p (ix2 ⟨768 + q.val, by omega⟩ d) := by
  pointwise [k0_pay33]

theorem slice0_7 (a : FVec Ideal S384x128 .bf16) (b : FVec Ideal S1024x1 .f32) (p : FVec Ideal S1024x384 .bf16) (q : Fin 128) (d : Fin 64) :
    k0_pay34 a b p (ix2 q d) = k0_pay26 a b p (ix2 ⟨896 + q.val, by omega⟩ d) := by
  pointwise [k0_pay34]

theorem slice1_0 (a : FVec Ideal S384x128 .bf16) (k l : FVec Ideal S1024x1 .f32) (p : FVec Ideal S1024x384 .f32) (q : Fin 128) (d : Fin 64) :
    k0_pay36 a k l p (ix2 q d) = k0_pay35 a k l p (ix2 ⟨0 + q.val, by omega⟩ d) := by
  pointwise [k0_pay36]

theorem slice1_1 (o : FVec Ideal S1024x64 .f32) (q : Fin 128) (d : Fin 64) :
    k0_pay1 o (ix2 q d) = o (ix2 ⟨128 + q.val, by omega⟩ d) := by
  pointwise [k0_pay1]

theorem slice1_2 (o : FVec Ideal S1024x64 .f32) (q : Fin 128) (d : Fin 64) :
    k0_pay2 o (ix2 q d) = o (ix2 ⟨256 + q.val, by omega⟩ d) := by
  pointwise [k0_pay2]

theorem slice1_3 (o : FVec Ideal S1024x64 .f32) (q : Fin 128) (d : Fin 64) :
    k0_pay3 o (ix2 q d) = o (ix2 ⟨384 + q.val, by omega⟩ d) := by
  pointwise [k0_pay3]

theorem slice1_4 (o : FVec Ideal S1024x64 .f32) (q : Fin 128) (d : Fin 64) :
    k0_pay4 o (ix2 q d) = o (ix2 ⟨512 + q.val, by omega⟩ d) := by
  pointwise [k0_pay4]

theorem slice1_5 (o : FVec Ideal S1024x64 .f32) (q : Fin 128) (d : Fin 64) :
    k0_pay5 o (ix2 q d) = o (ix2 ⟨640 + q.val, by omega⟩ d) := by
  pointwise [k0_pay5]

theorem slice1_6 (o : FVec Ideal S1024x64 .f32) (q : Fin 128) (d : Fin 64) :
    k0_pay6 o (ix2 q d) = o (ix2 ⟨768 + q.val, by omega⟩ d) := by
  pointwise [k0_pay6]

theorem slice1_7 (o : FVec Ideal S1024x64 .f32) (q : Fin 128) (d : Fin 64) :
    k0_pay7 o (ix2 q d) = o (ix2 ⟨896 + q.val, by omega⟩ d) := by
  pointwise [k0_pay7]

/-- The output array: each row is a query of a block of a sequence, each lane one of a head's. -/
def final (c : Dev nD) : FVec Ideal S32768x1024 .f32 := fun i =>
  Row.attn (acts m c) (sinkOf m c) (biasOf m c) ⟨(i 0).val / 4096, by have := (i 0).isLt; simp only [Matrix.cons_val] at this; omega⟩ ⟨(i 0).val / 128 % 32, by omega⟩ ⟨(i 0).val % 128, by omega⟩
    ⟨(i 1).val / 64, by have := (i 1).isLt; simp only [Matrix.cons_val] at this; omega⟩ ⟨(i 1).val % 64, by omega⟩

/-- A head's row of a point's block is the output array's. -/
theorem final_at (c : Dev nD) (t : Fin cfg0.N) (ht : t.val < 256) (i : S32768x1024.Idx) (q : Fin 128) (h : Fin 16) (d : Fin 64)
    (h0 : (i 0).val = t.val * 128 + q.val) (h1 : (i 1).val = h.val * 64 + d.val) :
    Row.attn (acts m c) (sinkOf m c) (biasOf m c) (seqOf t ht) (blkOf t) q h d = final m c i := by
  unfold final
  congr 1 <;> exact Fin.ext (by simp only; omega)

theorem row0 (c : Dev nD) (t : Fin cfg0.N) (ht : t.val < 256) (r : Nat) (hr : r < 1024) (d : Fin 64) (i : S32768x1024.Idx)
    (h0 : (i 0).val = t.val * 128 + r % 128) (h1 : (i 1).val = r / 128 * 64 + d.val) :
    k0_pay26 (k0_pay9 (F := Ideal) (iblk m c 5 t) (iblk m c 6 t) (iblk m c 7 t))
      (k0_pay20 (k0_pay10 (grid0.coords t)) (raw0 m c t) (View.ld (iblk m c 8 t) (Rect.unit ![0, 0, 0] ![1, 1024, 384] inb_S2x1024x384_S1x1024x384_0_0_0)) (View.ld (iblk m c 0 t) (Rect.unit ![0, 0, 0] ![1, 1024, 1] inb_S2x1024x1_S1x1024x1_0_0_0)))
      (k0_pay21 (k0_pay10 (grid0.coords t)) (raw0 m c t) (View.ld (iblk m c 8 t) (Rect.unit ![0, 0, 0] ![1, 1024, 384] inb_S2x1024x384_S1x1024x384_0_0_0)) (View.ld (iblk m c 0 t) (Rect.unit ![0, 0, 0] ![1, 1024, 1] inb_S2x1024x1_S1x1024x1_0_0_0)))
      (ix2 ⟨r, hr⟩ d) = final m c i :=
  (mean_first _ _ _ _ _ _ _).trans ((out0_apply m c t ht ⟨r, hr⟩ d).trans (final_at m c t ht i _ _ _ (by simp only; omega) (by simp only; omega)))

theorem row1 (c : Dev nD) (t : Fin cfg0.N) (ht : t.val < 256) (r : Nat) (hr : r < 1024) (d : Fin 64) (i : S32768x1024.Idx)
    (h0 : (i 0).val = t.val * 128 + r % 128) (h1 : (i 1).val = 512 + r / 128 * 64 + d.val) :
    k0_pay35 (k0_pay9 (F := Ideal) (iblk m c 5 t) (iblk m c 6 t) (iblk m c 7 t))
      (k0_pay23 (View.ld (iblk m c 0 t) (Rect.unit ![1, 0, 0] ![1, 1024, 1] inb_S2x1024x1_S1x1024x1_1_0_0)))
      (k0_pay24 (k0_pay10 (grid0.coords t)) (raw1 m c t) (View.ld (iblk m c 8 t) (Rect.unit ![1, 0, 0] ![1, 1024, 384] inb_S2x1024x384_S1x1024x384_1_0_0)) (View.ld (iblk m c 0 t) (Rect.unit ![1, 0, 0] ![1, 1024, 1] inb_S2x1024x1_S1x1024x1_1_0_0)))
      (k0_pay25 (k0_pay10 (grid0.coords t)) (raw1 m c t) (View.ld (iblk m c 8 t) (Rect.unit ![1, 0, 0] ![1, 1024, 384] inb_S2x1024x384_S1x1024x384_1_0_0)) (View.ld (iblk m c 0 t) (Rect.unit ![1, 0, 0] ![1, 1024, 1] inb_S2x1024x1_S1x1024x1_1_0_0)))
      (ix2 ⟨r, hr⟩ d) = final m c i :=
  (mean_second _ _ _ _ _ _ _).trans ((out1_apply m c t ht ⟨r, hr⟩ d).trans (final_at m c t ht i _ _ _ (by simp only; omega) (by simp only; omega)))

/-- Where a point's block lies in the output array. -/
theorem place (t : Fin cfg0.N) (y : S128x1024.Idx) :
    ((((View.whole main_v53).slice (win0_9.rect t)).emb y) 0).val = t.val * 128 + (y 0).val ∧ ((((View.whole main_v53).slice (win0_9.rect t)).emb y) 1).val = (y 1).val := by
  constructor <;> blk_simp [idx t]

set_option maxHeartbeats 2000000 in
/-- The kernel's output array after its run. -/
theorem arr_eq (c : Dev nD) : (dats m 0 c).arrAt 9 cfg0.N = final m c := by
  refine (dats m 0 c).arrAt_eq_of_covers 9 (final m c) (by decide +kernel) fun t _ y => ?_
  have ht : t.val < 256 := t.isLt
  obtain ⟨p0, p1⟩ := place t y
  have key0 := row0 m c t ht
  unfold raw0 at key0
  have key1 := row1 m c t ht
  unfold raw1 at key1
  blk_simp
  rw [after0_9]; unfold outsAt0; frame_out
  canon_tiles x h
  case piece0 =>
    obtain ⟨q, d, rfl⟩ : ∃ (q : Fin 128) (d : Fin 64), x = ix2 q d := ⟨x 0, x 1, (ix2_eta x).symm⟩
    simp only [ix2] at h0 h1
    exact (slice1_7 _ q d).trans (key1 _ _ d _ (p0.trans (by clear key0 key1 p0 p1; omega)) (p1.trans (by clear key0 key1 p0 p1; omega)))
  case piece1 =>
    obtain ⟨q, d, rfl⟩ : ∃ (q : Fin 128) (d : Fin 64), x = ix2 q d := ⟨x 0, x 1, (ix2_eta x).symm⟩
    simp only [ix2] at h0 h1
    exact (slice1_6 _ q d).trans (key1 _ _ d _ (p0.trans (by clear key0 key1 p0 p1; omega)) (p1.trans (by clear key0 key1 p0 p1; omega)))
  case piece2 =>
    obtain ⟨q, d, rfl⟩ : ∃ (q : Fin 128) (d : Fin 64), x = ix2 q d := ⟨x 0, x 1, (ix2_eta x).symm⟩
    simp only [ix2] at h0 h1
    exact (slice1_5 _ q d).trans (key1 _ _ d _ (p0.trans (by clear key0 key1 p0 p1; omega)) (p1.trans (by clear key0 key1 p0 p1; omega)))
  case piece3 =>
    obtain ⟨q, d, rfl⟩ : ∃ (q : Fin 128) (d : Fin 64), x = ix2 q d := ⟨x 0, x 1, (ix2_eta x).symm⟩
    simp only [ix2] at h0 h1
    exact (slice1_4 _ q d).trans (key1 _ _ d _ (p0.trans (by clear key0 key1 p0 p1; omega)) (p1.trans (by clear key0 key1 p0 p1; omega)))
  case piece4 =>
    obtain ⟨q, d, rfl⟩ : ∃ (q : Fin 128) (d : Fin 64), x = ix2 q d := ⟨x 0, x 1, (ix2_eta x).symm⟩
    simp only [ix2] at h0 h1
    exact (slice1_3 _ q d).trans (key1 _ _ d _ (p0.trans (by clear key0 key1 p0 p1; omega)) (p1.trans (by clear key0 key1 p0 p1; omega)))
  case piece5 =>
    obtain ⟨q, d, rfl⟩ : ∃ (q : Fin 128) (d : Fin 64), x = ix2 q d := ⟨x 0, x 1, (ix2_eta x).symm⟩
    simp only [ix2] at h0 h1
    exact (slice1_2 _ q d).trans (key1 _ _ d _ (p0.trans (by clear key0 key1 p0 p1; omega)) (p1.trans (by clear key0 key1 p0 p1; omega)))
  case piece6 =>
    obtain ⟨q, d, rfl⟩ : ∃ (q : Fin 128) (d : Fin 64), x = ix2 q d := ⟨x 0, x 1, (ix2_eta x).symm⟩
    simp only [ix2] at h0 h1
    exact (slice1_1 _ q d).trans (key1 _ _ d _ (p0.trans (by clear key0 key1 p0 p1; omega)) (p1.trans (by clear key0 key1 p0 p1; omega)))
  case piece7 =>
    obtain ⟨q, d, rfl⟩ : ∃ (q : Fin 128) (d : Fin 64), x = ix2 q d := ⟨x 0, x 1, (ix2_eta x).symm⟩
    simp only [ix2] at h0 h1
    exact (slice1_0 _ _ _ _ q d).trans (key1 _ _ d _ (p0.trans (by clear key0 key1 p0 p1; omega)) (p1.trans (by clear key0 key1 p0 p1; omega)))
  case piece8 =>
    obtain ⟨q, d, rfl⟩ : ∃ (q : Fin 128) (d : Fin 64), x = ix2 q d := ⟨x 0, x 1, (ix2_eta x).symm⟩
    simp only [ix2] at h0 h1
    exact (slice0_7 _ _ _ q d).trans (key0 _ _ d _ (p0.trans (by clear key0 key1 p0 p1; omega)) (p1.trans (by clear key0 key1 p0 p1; omega)))
  case piece9 =>
    obtain ⟨q, d, rfl⟩ : ∃ (q : Fin 128) (d : Fin 64), x = ix2 q d := ⟨x 0, x 1, (ix2_eta x).symm⟩
    simp only [ix2] at h0 h1
    exact (slice0_6 _ _ _ q d).trans (key0 _ _ d _ (p0.trans (by clear key0 key1 p0 p1; omega)) (p1.trans (by clear key0 key1 p0 p1; omega)))
  case piece10 =>
    obtain ⟨q, d, rfl⟩ : ∃ (q : Fin 128) (d : Fin 64), x = ix2 q d := ⟨x 0, x 1, (ix2_eta x).symm⟩
    simp only [ix2] at h0 h1
    exact (slice0_5 _ _ _ q d).trans (key0 _ _ d _ (p0.trans (by clear key0 key1 p0 p1; omega)) (p1.trans (by clear key0 key1 p0 p1; omega)))
  case piece11 =>
    obtain ⟨q, d, rfl⟩ : ∃ (q : Fin 128) (d : Fin 64), x = ix2 q d := ⟨x 0, x 1, (ix2_eta x).symm⟩
    simp only [ix2] at h0 h1
    exact (slice0_4 _ _ _ q d).trans (key0 _ _ d _ (p0.trans (by clear key0 key1 p0 p1; omega)) (p1.trans (by clear key0 key1 p0 p1; omega)))
  case piece12 =>
    obtain ⟨q, d, rfl⟩ : ∃ (q : Fin 128) (d : Fin 64), x = ix2 q d := ⟨x 0, x 1, (ix2_eta x).symm⟩
    simp only [ix2] at h0 h1
    exact (slice0_3 _ _ _ q d).trans (key0 _ _ d _ (p0.trans (by clear key0 key1 p0 p1; omega)) (p1.trans (by clear key0 key1 p0 p1; omega)))
  case piece13 =>
    obtain ⟨q, d, rfl⟩ : ∃ (q : Fin 128) (d : Fin 64), x = ix2 q d := ⟨x 0, x 1, (ix2_eta x).symm⟩
    simp only [ix2] at h0 h1
    exact (slice0_2 _ _ _ q d).trans (key0 _ _ d _ (p0.trans (by clear key0 key1 p0 p1; omega)) (p1.trans (by clear key0 key1 p0 p1; omega)))
  case piece14 =>
    obtain ⟨q, d, rfl⟩ : ∃ (q : Fin 128) (d : Fin 64), x = ix2 q d := ⟨x 0, x 1, (ix2_eta x).symm⟩
    simp only [ix2] at h0 h1
    exact (slice0_1 _ _ _ q d).trans (key0 _ _ d _ (p0.trans (by clear key0 key1 p0 p1; omega)) (p1.trans (by clear key0 key1 p0 p1; omega)))
  case piece15 =>
    obtain ⟨q, d, rfl⟩ : ∃ (q : Fin 128) (d : Fin 64), x = ix2 q d := ⟨x 0, x 1, (ix2_eta x).symm⟩
    simp only [ix2] at h0 h1
    exact (slice0_0 _ _ _ q d).trans (key0 _ _ d _ (p0.trans (by clear key0 key1 p0 p1; omega)) (p1.trans (by clear key0 key1 p0 p1; omega)))

end Cert.KernelIdeal.Attn

end
-- ==== Proof.Attention.lean ====
/- The attention's claims: the three frames, the named constant, and the equality of kernel and reference on the extended reals. -/
module

public import proofs.«01_k».proof.Defs
public import proofs.«01_k».proof.Proof.Gen.Kernel.Frame
public import proofs.«01_k».proof.Proof.StageReads
public import proofs.«01_k».proof.Proof.Output

@[expose] public section

set_option maxRecDepth 16384

noncomputable section

namespace Cert.Attention

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h =>
    ⟨fun c => (h c).2, sem_eq_zero_of_no_sems (by decide) r.2⟩) (Cert.ReferenceIdeal.Value.run (F := Ideal) m ρ)

/-- The mask is minus infinity. -/
theorem names_mask : Cert.preserves_Kernel_KernelIdeal :=
  IdealRules.named_const.statement Cert.KernelIdeal.κ "mask" .f32 0xF149F2CA#32 ⊥ rfl

/-- The kernel's output array is the reference's attention of the same arguments. -/
theorem final_eq (m : (ℓ : Loc Cert.KernelIdeal.nD Cert.KernelIdeal.τ Cert.KernelIdeal.sig) → Buf (Elt Ideal) ℓ) (c : Dev Cert.KernelIdeal.nD) :
    Cert.KernelIdeal.Attn.final m c = Cert.ReferenceIdeal.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  funext i
  obtain ⟨r, l, rfl⟩ : ∃ (r : Fin 32768) (l : Fin 1024), i = ix2 r l := ⟨i 0, i 1, (ix2_eta i).symm⟩
  exact (Cert.ReferenceIdeal.Attn.attn_apply _ _ _ r l).symm

theorem same : Cert.algebraic_KernelIdeal_ReferenceIdeal := by
  intro m ρ m' ρ' _ hagree
  refine ⟨fun c => Cert.KernelIdeal.Attn.final m c, ?_, ?_⟩
  · exact (θ_run Cert.KernelIdeal.defs _ _).mono (fun r h c => ⟨(h c).1.trans (Cert.KernelIdeal.Attn.arr_eq m c), (h c).2⟩) (Cert.KernelIdeal.Value.run_blocks m ρ)
  · refine (θ_run Cert.ReferenceIdeal.defs _ _).mono (fun r h c => ⟨(h c).1.trans ?_, (h c).2⟩) (Cert.ReferenceIdeal.Value.run (F := Ideal) m' ρ')
    refine (Cert.ReferenceIdeal.Attn.res_eq m' c).trans ?_
    rw [(hagree c).1, (hagree c).2.1, (hagree c).2.2]
    exact (final_eq m c).symm

end Cert.Attention

end
-- ==== Proof.ExpertKit.lean ====
/- What every point of the expert kernel's grid shares: the arrays as the region finds them, the tables read off the
   launch memory, the windows' blocks, and the memrefs the body is called with. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: after the host operations before it. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- The buffers the host operations write. -/
abbrev written : List (Ref sig .tc) :=
  [main_v0, main_v1, main_v2, main_c, main_v3, main_v4, main_v5, main_v6, main_v7, main_v8, main_v9, main_v10]

/-- A buffer no host operation writes is found as launched. -/
theorem V_kept (c : Dev nD) (b : Ref sig .tc) (hb : b ∉ written) : V m c b = m ((c : Thread nD τ).loc b) := by
  have hne : ∀ w ∈ written, b ≠ w := fun w hw e => hb (e ▸ hw)
  exact StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (hne _ (by decide))))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_arg0
abbrev htbM0_0 : tbM0_0.IsWhole := Memref.isWhole_whole _
abbrev tbM0_1 : Memref sig .tc .smem S288 .i32 := Memref.whole main_v8
abbrev htbM0_1 : tbM0_1.IsWhole := Memref.isWhole_whole _
abbrev tbM0_2 : Memref sig .tc .smem S1 .i32 := Memref.whole main_arg1
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_kept m c main_arg0 (by decide)),
      ((h c).2 main_arg1 (by decide : main_arg1 ∈ Pipeline.restRefs sig spec0)).trans (V_kept m c main_arg1 (by decide)),
      ((h c).1 0).trans (((dats 0 c).arrAt_in 0 rfl _).trans ((hA c 0).trans (V_kept m c main_arg2 (by decide)))),
      ((h c).1 1).trans (((dats 0 c).arrAt_in 1 rfl _).trans ((hA c 1).trans (V_kept m c main_arg3 (by decide)))),
      ((h c).2 main_arg4 (by decide : main_arg4 ∈ Pipeline.restRefs sig spec0)).trans (V_kept m c main_arg4 (by decide)),
      ((h c).1 3).trans (((dats 0 c).arrAt_in 3 rfl _).trans ((hA c 3).trans (V_kept m c main_arg5 (by decide)))),
      ((h c).2 main_arg6 (by decide : main_arg6 ∈ Pipeline.restRefs sig spec0)).trans (V_kept m c main_arg6 (by decide))⟩) h

/-! ## The words the body reads, and its conditions -/

/-- The word of the second table at the point: one where the expert differs from the point before. -/
def firstWord (c : Dev nD) (i : grid0.Coords) (xt1 : TbBuf0 (F := F) c tbM0_1) : BitVec 32 :=
  View.readAt (Elt F) tbM0_1.view (Rect.unit (s := S288) (k0_off1 i) S1.size (k0_off1_inb i)).toLoadRect xt1
    (Shape.Idx.first (numel1_S1.symm ▸ Nat.one_pos))

/-- The word of the third table: how many blocks are used. -/
def usedWord (c : Dev nD) (xt2 : TbBuf0 (F := F) c tbM0_2) : BitVec 32 :=
  View.readAt (Elt F) tbM0_2.view (Rect.unit (s := S1) ![0] S1.size inb_S1_S1_0).toLoadRect xt2
    (Shape.Idx.first (numel1_S1.symm ▸ Nat.one_pos))

/-- The block is used and begins a new expert. -/
abbrev Begins (c : Dev nD) (i : grid0.Coords) (xt1 : TbBuf0 (F := F) c tbM0_1) (xt2 : TbBuf0 (F := F) c tbM0_2) : Prop :=
  Scalar.cmpi .ne (Scalar.extui (Scalar.andi (Scalar.cmpi .eq (firstWord c i xt1) 1#32)
    (Scalar.cmpi .slt (BitVec.ofNat 32 (i 0).val) (usedWord c xt2))) : BitVec 32) 0#32 = 1#1

/-- The block is used. -/
abbrev Used (c : Dev nD) (i : grid0.Coords) (xt2 : TbBuf0 (F := F) c tbM0_2) : Prop := k0_cond2 i (usedWord c xt2) = 1#1

/-- The block is padding. -/
abbrev Padding (c : Dev nD) (i : grid0.Coords) (xt2 : TbBuf0 (F := F) c tbM0_2) : Prop := k0_cond3 i (usedWord c xt2) = 1#1

/-! ## No window is idle -/

theorem live0 (hO : Ok m) (t : Fin (cfgM m hO).N) : (cfgM m hO).idle 0 (grid0.coords t) = false := rfl
theorem live1 (hO : Ok m) (t : Fin (cfgM m hO).N) : (cfgM m hO).idle 1 (grid0.coords t) = false := rfl
theorem live2 (hO : Ok m) (t : Fin (cfgM m hO).N) : (cfgM m hO).idle 2 (grid0.coords t) = false := rfl
theorem live3 (hO : Ok m) (t : Fin (cfgM m hO).N) : (cfgM m hO).idle 3 (grid0.coords t) = false := rfl
theorem live4 (hO : Ok m) (t : Fin (cfgM m hO).N) : (cfgM m hO).idle 4 (grid0.coords t) = false := rfl
/-! ## The kernel body on any staging memrefs: a subtype the run finds -/

/-- One staging buffer of output window 5, through which its contents are stated (`View.read_writes_of_cover`: the
    choice does not matter). -/
abbrev VO0_5 : View sig .tc .vmem S512x1024 .bf16 := (Memref.whole cc0_stg5_0 : Memref sig .tc .vmem S512x1024 .bf16).view
/-- Each window's current staging memref at point `t`, spelled as the pipeline passes it (`bodyAt0`), and its wholeness. -/
abbrev ms0_0 (hO : Ok m) (t : Fin (cfgM m hO).N) : Memref sig .tc .vmem S512x512 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .bf16 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S1024x2048 .bf16 := Memref.whole cc0_scratch0
abbrev scM0_1 : Memref sig .tc .vmem S1024x1024 .bf16 := Memref.whole cc0_scratch1
/-- The scratch `arg10` the kernel carries between points, as a view: what it holds is stated through it. -/
abbrev VS0_0 : View sig .tc .vmem S1024x2048 .bf16 := scM0_0.view
/-- The scratch `arg11` the kernel carries between points, as a view: what it holds is stated through it. -/
abbrev VS0_1 : View sig .tc .vmem S1024x1024 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Experts

end
-- ==== Proof.ExpertRunA.lean ====
/- The whole body's run at a used block that begins a new expert: from the windows' memrefs at their blocks to what its stores leave. -/
module

public import proofs.«01_k».proof.Proof.ExpertKit

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
/-- The body at a used block that begins a new expert: the pieces it leaves in the output block and in the two scratch arrays, with the proof that it
    runs from the windows' memrefs at any contents `x·` to a continuation that holds those pieces. -/
noncomputable def runA (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2)
    (hc0 : Begins c i xt1 xt2) (hc1 : Used c i xt2) (hc2 : ¬Padding c i xt2) :
    Σ' (L5 : List (View.Piece (Elt F) S512x1024 .bf16)), Σ' (LS0 : List (View.Piece (Elt F) S1024x2048 .bf16)), { LS1 : List (View.Piece (Elt F) S1024x1024 .bf16) //
      ∀ (E : Set ℕ) (K : PUnit → sProp (MT nD τ sig Unit (Elt F) ℕ (UR sig nD τ) ℕ)),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9 arg10 harg10 arg11 harg11) K } := by
  refine ⟨?_, ?_, ?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]; · iexists _; iexact HS0
    isplitl [HS1]; · iexists _; iexact HS1
    isplitl [HT0]; · iexact HT0
    isplitl [HT1]; · iexact HT1
    iexact HT2

end Cert.Experts

end
-- ==== Proof.ExpertRunB.lean ====
/- The whole body's run at a used block of the expert of the block before: from the windows' memrefs at their blocks to what its stores leave. -/
module

public import proofs.«01_k».proof.Proof.ExpertRunA

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
/-- The body at a used block of the expert of the block before: the pieces it leaves in the output block and in the two scratch arrays, with the proof that it
    runs from the windows' memrefs at any contents `x·` to a continuation that holds those pieces. -/
noncomputable def runB (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2) (xs0 : Vec F S1024x2048 .bf16) (xs1 : Vec F S1024x1024 .bf16)
    (hc0 : ¬Begins c i xt1 xt2) (hc1 : Used c i xt2) (hc2 : ¬Padding c i xt2) :
    Σ' (L5 : List (View.Piece (Elt F) S512x1024 .bf16)), Σ' (LS0 : List (View.Piece (Elt F) S1024x2048 .bf16)), { LS1 : List (View.Piece (Elt F) S1024x1024 .bf16) //
      ∀ (E : Set ℕ) (K : PUnit → sProp (MT nD τ sig Unit (Elt F) ℕ (UR sig nD τ) ℕ)),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs0 ∗ owns (c : Thread nD τ) arg11 fullShare xs1 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ owns (c : Thread nD τ) arg10 fullShare xs0 ∗ owns (c : Thread nD τ) arg11 fullShare xs1 ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9 arg10 harg10 arg11 harg11) K } := by
  refine ⟨?_, [], [], fun E K => ?run⟩
  case run =>
    simp only [cc0_moe_experts_eq_skeleton]; unfold cc0_moe_experts_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]
    · iexists _; isplitr; · ipureintro; exact harg10.read_unread _
      iexact HS0
    isplitl [HS1]
    · iexists _; isplitr; · ipureintro; exact harg11.read_unread _
      iexact HS1
    isplitl [HT0]; · iexact HT0
    isplitl [HT1]; · iexact HT1
    iexact HT2

end Cert.Experts

end
-- ==== Proof.ExpertRunC.lean ====
/- The whole body's run at a block of padding: from the windows' memrefs at their blocks to what its stores leave. -/
module

public import proofs.«01_k».proof.Proof.ExpertRunB

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
/-- The body at a block of padding: the pieces it leaves in the output block and in the two scratch arrays, with the proof that it
    runs from the windows' memrefs at any contents `x·` to a continuation that holds those pieces. -/
noncomputable def runC (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2) (xs0 : Vec F S1024x2048 .bf16) (xs1 : Vec F S1024x1024 .bf16)
    (hc0 : ¬Begins c i xt1 xt2) (hc1 : ¬Used c i xt2) (hc2 : Padding c i xt2) :
    Σ' (L5 : List (View.Piece (Elt F) S512x1024 .bf16)), Σ' (LS0 : List (View.Piece (Elt F) S1024x2048 .bf16)), { LS1 : List (View.Piece (Elt F) S1024x1024 .bf16) //
      ∀ (E : Set ℕ) (K : PUnit → sProp (MT nD τ sig Unit (Elt F) ℕ (UR sig nD τ) ℕ)),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs0 ∗ owns (c : Thread nD τ) arg11 fullShare xs1 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ owns (c : Thread nD τ) arg10 fullShare xs0 ∗ owns (c : Thread nD τ) arg11 fullShare xs1 ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9 arg10 harg10 arg11 harg11) K } := by
  refine ⟨?_, [], [], fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]
    · iexists _; isplitr; · ipureintro; exact harg10.read_unread _
      iexact HS0
    isplitl [HS1]
    · iexists _; isplitr; · ipureintro; exact harg11.read_unread _
      iexact HS1
    isplitl [HT0]; · iexact HT0
    isplitl [HT1]; · iexact HT1
    iexact HT2

end Cert.Experts

end
-- ==== Proof.ExpertBody.lean ====
/- What one grid point of the expert kernel leaves, in closed form: the permuted first weight, the second weight, and the
   block of the output. -/
module

public import proofs.«01_k».proof.Proof.ExpertRunC
public import Idealize.ShloMosaic.Lib.Pipeline.ValueKit
public import Idealize.ShloMosaic.Lib.Pipeline.ReadBack

@[expose] public section

set_option maxRecDepth 16384

noncomputable section

namespace Cert.Experts

open Cert.Kernel2Ideal Cert.Kernel2Ideal.Gen
open Idealize.ShloMosaic Idealize.ShloMosaic.TcCoe Idealize.ShloMosaic.Tactic

variable {F : FTy → Type} [FloatOps F]

/-- The eight column strips of the first weight, each permuted, at the places they are stored. -/
def w1Strips (x1 : Vec F S1x1x1024x2048 .f32) : List (View.Piece (Elt F) S1024x2048 .bf16) :=
  [⟨Rect.unit ![0, 1792] S1024x256.size inb_S1024x2048_S1024x256_0_1792,
      k0_pay2 k0_pay6 (View.ld x1 (Rect.unit ![0, 0, 0, 1792] S1x1x1024x256.size inb_S1x1x1024x2048_S1x1x1024x256_0_0_0_1792))⟩,
    ⟨Rect.unit ![0, 1536] S1024x256.size inb_S1024x2048_S1024x256_0_1536,
      k0_pay1 k0_pay6 (View.ld x1 (Rect.unit ![0, 0, 0, 1536] S1x1x1024x256.size inb_S1x1x1024x2048_S1x1x1024x256_0_0_0_1536))⟩,
    ⟨Rect.unit ![0, 1280] S1024x256.size inb_S1024x2048_S1024x256_0_1280,
      k0_pay13 k0_pay6 (View.ld x1 (Rect.unit ![0, 0, 0, 1280] S1x1x1024x256.size inb_S1x1x1024x2048_S1x1x1024x256_0_0_0_1280))⟩,
    ⟨Rect.unit ![0, 1024] S1024x256.size inb_S1024x2048_S1024x256_0_1024,
      k0_pay12 k0_pay6 (View.ld x1 (Rect.unit ![0, 0, 0, 1024] S1x1x1024x256.size inb_S1x1x1024x2048_S1x1x1024x256_0_0_0_1024))⟩,
    ⟨Rect.unit ![0, 768] S1024x256.size inb_S1024x2048_S1024x256_0_768,
      k0_pay11 k0_pay6 (View.ld x1 (Rect.unit ![0, 0, 0, 768] S1x1x1024x256.size inb_S1x1x1024x2048_S1x1x1024x256_0_0_0_768))⟩,
    ⟨Rect.unit ![0, 512] S1024x256.size inb_S1024x2048_S1024x256_0_512,
      k0_pay10 k0_pay6 (k0_pay9 (View.ld x1 (Rect.unit ![0, 0, 0, 512] S1x1x1024x256.size inb_S1x1x1024x2048_S1x1x1024x256_0_0_0_512)))⟩,
    ⟨Rect.unit ![0, 256] S1024x256.size inb_S1024x2048_S1024x256_0_256,
      k0_pay8 (View.ld x1 (Rect.unit ![0, 0, 0, 256] S1x1x1024x256.size inb_S1x1x1024x2048_S1x1x1024x256_0_0_0_256))⟩,
    ⟨Rect.unit ![0, 0] S1024x256.size inb_S1024x2048_S1024x256_0_0,
      k0_pay7 (View.ld x1 (Rect.unit ![0, 0, 0, 0] S1x1x1024x256.size inb_S1x1x1024x2048_S1x1x1024x256_0_0_0_0))⟩]

/-- The first weight, every 256 columns with the even ones before the odd ones. -/
def w1p (x1 : Vec F S1x1x1024x2048 .f32) : Vec F S1024x2048 .bf16 := View.canon (w1Strips x1)

/-- The second weight. -/
def w2p (x3 : Vec F S1x1x1024x1024 .f32) : Vec F S1024x1024 .bf16 := k0_pay3 x3

/-- The output block from the rows' words, the weights as the scratch arrays hold them and the two biases. -/
def mlp (x : Vec F S512x512 .i32) (w1 : Vec F S1024x2048 .bf16) (b1 : Vec F S1x1x1x2048 .f32) (w2 : Vec F S1024x1024 .bf16)
    (b2 : Vec F S1x1x1x1024 .f32) : Vec F S512x1024 .bf16 :=
  k0_pay4 (k0_pay15 x w1 b1) (k0_pay18 (k0_pay16 x w1 b1) (k0_pay17 x w1 b1)) (k0_pay19 (k0_pay14 x w1 b1))
      (k0_pay22 (k0_pay20 (k0_pay14 x w1 b1)) (k0_pay21 (k0_pay14 x w1 b1)) (FloatOps.ofBits FTy.f32 3235905536#32)
        (FloatOps.ofBits FTy.f32 1088421888#32))
      (k0_pay23 (k0_pay14 x w1 b1))
      (k0_pay26 (k0_pay24 (k0_pay14 x w1 b1)) (FloatOps.ofBits FTy.f32 1088421888#32) (k0_pay25 (k0_pay14 x w1 b1)))
      (k0_pay27 (k0_pay14 x w1 b1)) (k0_pay28 (k0_pay14 x w1 b1)) (k0_pay29 (k0_pay14 x w1 b1)) w2 b2

/-- A load of the whole scratch after stores that are a list of pieces. -/
theorem readCov_whole {sp : Space} (v : View sig .tc sp S1024x2048 .bf16) (L : List (View.Piece (Elt F) S1024x2048 .bf16)) (inb : ∀ a, (![0, 0] : Fin 2 → ℕ) a + S1024x2048.size a ≤ S1024x2048.size a) :
    v.readCov L (Rect.unit (s := S1024x2048) ![0, 0] S1024x2048.size inb).toLoadRect = View.canon L := by
  rw [View.readCov_eq_canon']
  exact View.ld_unit_zero (by funext a; fin_cases a <;> rfl) inb _

/-- The same for the second scratch. -/
theorem readCov_whole' {sp : Space} (v : View sig .tc sp S1024x1024 .bf16) (L : List (View.Piece (Elt F) S1024x1024 .bf16)) (inb : ∀ a, (![0, 0] : Fin 2 → ℕ) a + S1024x1024.size a ≤ S1024x1024.size a) :
    v.readCov L (Rect.unit (s := S1024x1024) ![0, 0] S1024x1024.size inb).toLoadRect = View.canon L := by
  rw [View.readCov_eq_canon']
  exact View.ld_unit_zero (by funext a; fin_cases a <;> rfl) inb _

set_option maxHeartbeats 1000000 in
/-- A point that begins an expert leaves the permuted first weight in the first scratch. -/
theorem scr0_A (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2)
    (hc0 : Begins c i xt1 xt2) (hc1 : Used c i xt2) (hc2 : ¬Padding c i xt2) :
    VS0_0.read (Elt F) (VS0_0.writes (Elt F) VS0_0.junk (runA c i arg4 harg4 arg5 harg5 arg6 harg6 arg7 harg7 arg8 harg8 arg9 harg9 arg10 harg10 arg11 harg11 x0 x1 x2 x3 x4 xt0 xt1 xt2 hc0 hc1 hc2).2.1) = w1p x1 := by
  frame_out; rfl

set_option maxHeartbeats 1000000 in
/-- A point that begins an expert leaves the second weight in the second scratch. -/
theorem scr1_A (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2)
    (hc0 : Begins c i xt1 xt2) (hc1 : Used c i xt2) (hc2 : ¬Padding c i xt2) :
    VS0_1.read (Elt F) (VS0_1.writes (Elt F) VS0_1.junk (runA c i arg4 harg4 arg5 harg5 arg6 harg6 arg7 harg7 arg8 harg8 arg9 harg9 arg10 harg10 arg11 harg11 x0 x1 x2 x3 x4 xt0 xt1 xt2 hc0 hc1 hc2).2.2.1) = w2p x3 := by
  frame_out; rfl

set_option maxHeartbeats 1000000 in
/-- The one store of such a point into the output block, over what it read back of the scratch arrays. -/
theorem out_A_pieces (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2)
    (hc0 : Begins c i xt1 xt2) (hc1 : Used c i xt2) (hc2 : ¬Padding c i xt2) :
    (runA c i arg4 harg4 arg5 harg5 arg6 harg6 arg7 harg7 arg8 harg8 arg9 harg9 arg10 harg10 arg11 harg11 x0 x1 x2 x3 x4 xt0 xt1 xt2 hc0 hc1 hc2).1 =
      [⟨Rect.unit ![0, 0] S512x1024.size inb_S512x1024_S512x1024_0_0,
        mlp (View.readAt (Elt F) arg4.view (Rect.unit ![0, 0] S512x512.size inb_S512x512_S512x512_0_0).toLoadRect (harg4.unread x0))
          (arg10.view.readCov (runA c i arg4 harg4 arg5 harg5 arg6 harg6 arg7 harg7 arg8 harg8 arg9 harg9 arg10 harg10 arg11 harg11 x0 x1 x2 x3 x4 xt0 xt1 xt2 hc0 hc1 hc2).2.1 (Rect.unit ![0, 0] S1024x2048.size inb_S1024x2048_S1024x2048_0_0).toLoadRect)
          (View.readAt (Elt F) arg6.view (Rect.unit ![0, 0, 0, 0] S1x1x1x2048.size inb_S1x1x1x2048_S1x1x1x2048_0_0_0_0).toLoadRect (harg6.unread x2))
          (arg11.view.readCov (runA c i arg4 harg4 arg5 harg5 arg6 harg6 arg7 harg7 arg8 harg8 arg9 harg9 arg10 harg10 arg11 harg11 x0 x1 x2 x3 x4 xt0 xt1 xt2 hc0 hc1 hc2).2.2.1 (Rect.unit ![0, 0] S1024x1024.size inb_S1024x1024_S1024x1024_0_0).toLoadRect)
          (View.readAt (Elt F) arg8.view (Rect.unit ![0, 0, 0, 0] S1x1x1x1024.size inb_S1x1x1x1024_S1x1x1x1024_0_0_0_0).toLoadRect (harg8.unread x4))⟩] := by
  sl_kernel_rfl

set_option maxHeartbeats 1000000 in
/-- What a point that begins an expert leaves in the output block. -/
theorem out_A (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2)
    (hc0 : Begins c i xt1 xt2) (hc1 : Used c i xt2) (hc2 : ¬Padding c i xt2) :
    VO0_5.read (Elt F) (VO0_5.writes (Elt F) VO0_5.junk (runA c i arg4 harg4 arg5 harg5 arg6 harg6 arg7 harg7 arg8 harg8 arg9 harg9 arg10 harg10 arg11 harg11 x0 x1 x2 x3 x4 xt0 xt1 xt2 hc0 hc1 hc2).1) = mlp x0 (w1p x1) x2 (w2p x3) x4 := by
  have e0 := scr0_A c i arg4 harg4 arg5 harg5 arg6 harg6 arg7 harg7 arg8 harg8 arg9 harg9 arg10 harg10 arg11 harg11 x0 x1 x2 x3 x4 xt0 xt1 xt2 hc0 hc1 hc2
  have e1 := scr1_A c i arg4 harg4 arg5 harg5 arg6 harg6 arg7 harg7 arg8 harg8 arg9 harg9 arg10 harg10 arg11 harg11 x0 x1 x2 x3 x4 xt0 xt1 xt2 hc0 hc1 hc2
  rw [View.read_writes_junk_eq_canon] at e0 e1
  rw [out_A_pieces, View.read_writes_junk_eq_canon, readCov_whole, readCov_whole', e0, e1]
  frame_out

set_option maxHeartbeats 1000000 in
/-- What a further point of an expert leaves in the output block. -/
theorem out_B (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2)
    (xs0 : Vec F S1024x2048 .bf16) (xs1 : Vec F S1024x1024 .bf16)
    (hc0 : ¬Begins c i xt1 xt2) (hc1 : Used c i xt2) (hc2 : ¬Padding c i xt2) :
    VO0_5.read (Elt F) (VO0_5.writes (Elt F) VO0_5.junk (runB c i arg4 harg4 arg5 harg5 arg6 harg6 arg7 harg7 arg8 harg8 arg9 harg9 arg10 harg10 arg11 harg11 x0 x1 x2 x3 x4 xt0 xt1 xt2 xs0 xs1 hc0 hc1 hc2).1) = mlp x0 xs0 x2 xs1 x4 := by
  frame_out; rfl

set_option maxHeartbeats 1000000 in
/-- A padding point leaves zeros in the output block. -/
theorem out_C (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2)
    (xs0 : Vec F S1024x2048 .bf16) (xs1 : Vec F S1024x1024 .bf16)
    (hc0 : ¬Begins c i xt1 xt2) (hc1 : ¬Used c i xt2) (hc2 : Padding c i xt2) :
    VO0_5.read (Elt F) (VO0_5.writes (Elt F) VO0_5.junk (runC c i arg4 harg4 arg5 harg5 arg6 harg6 arg7 harg7 arg8 harg8 arg9 harg9 arg10 harg10 arg11 harg11 x0 x1 x2 x3 x4 xt0 xt1 xt2 xs0 xs1 hc0 hc1 hc2).1) = k0_pay5 := by
  frame_out

/-- The stores of a point that begins an expert cover the output block. -/
theorem cov_A (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2)
    (hc0 : Begins c i xt1 xt2) (hc1 : Used c i xt2) (hc2 : ¬Padding c i xt2) (y : S512x1024.Idx) :
    ∃ pc ∈ (runA c i arg4 harg4 arg5 harg5 arg6 harg6 arg7 harg7 arg8 harg8 arg9 harg9 arg10 harg10 arg11 harg11 x0 x1 x2 x3 x4 xt0 xt1 xt2 hc0 hc1 hc2).1, y ∈ pc.1.set :=
  View.cover_of_tiledL _ S512x1024.size (by sl_kernel_rfl) y

/-- They cover the first scratch. -/
theorem cov0_A (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2)
    (hc0 : Begins c i xt1 xt2) (hc1 : Used c i xt2) (hc2 : ¬Padding c i xt2) (y : S1024x2048.Idx) :
    ∃ pc ∈ (runA c i arg4 harg4 arg5 harg5 arg6 harg6 arg7 harg7 arg8 harg8 arg9 harg9 arg10 harg10 arg11 harg11 x0 x1 x2 x3 x4 xt0 xt1 xt2 hc0 hc1 hc2).2.1, y ∈ pc.1.set :=
  View.cover_of_tiledL (s := S1024x2048) _ S1024x256.size (by sl_kernel_rfl) y

/-- They cover the second scratch. -/
theorem cov1_A (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2)
    (hc0 : Begins c i xt1 xt2) (hc1 : Used c i xt2) (hc2 : ¬Padding c i xt2) (y : S1024x1024.Idx) :
    ∃ pc ∈ (runA c i arg4 harg4 arg5 harg5 arg6 harg6 arg7 harg7 arg8 harg8 arg9 harg9 arg10 harg10 arg11 harg11 x0 x1 x2 x3 x4 xt0 xt1 xt2 hc0 hc1 hc2).2.2.1, y ∈ pc.1.set :=
  View.cover_of_tiledL _ S1024x1024.size (by sl_kernel_rfl) y

/-- The stores of a further point of an expert cover the output block. -/
theorem cov_B (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2)
    (xs0 : Vec F S1024x2048 .bf16) (xs1 : Vec F S1024x1024 .bf16)
    (hc0 : ¬Begins c i xt1 xt2) (hc1 : Used c i xt2) (hc2 : ¬Padding c i xt2) (y : S512x1024.Idx) :
    ∃ pc ∈ (runB c i arg4 harg4 arg5 harg5 arg6 harg6 arg7 harg7 arg8 harg8 arg9 harg9 arg10 harg10 arg11 harg11 x0 x1 x2 x3 x4 xt0 xt1 xt2 xs0 xs1 hc0 hc1 hc2).1, y ∈ pc.1.set :=
  View.cover_of_tiledL _ S512x1024.size (by sl_kernel_rfl) y

/-- The stores of a padding point cover the output block. -/
theorem cov_C (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2)
    (xs0 : Vec F S1024x2048 .bf16) (xs1 : Vec F S1024x1024 .bf16)
    (hc0 : ¬Begins c i xt1 xt2) (hc1 : ¬Used c i xt2) (hc2 : Padding c i xt2) (y : S512x1024.Idx) :
    ∃ pc ∈ (runC c i arg4 harg4 arg5 harg5 arg6 harg6 arg7 harg7 arg8 harg8 arg9 harg9 arg10 harg10 arg11 harg11 x0 x1 x2 x3 x4 xt0 xt1 xt2 xs0 xs1 hc0 hc1 hc2).1, y ∈ pc.1.set :=
  View.cover_of_tiledL _ S512x1024.size (by sl_kernel_rfl) y

end Cert.Experts

end
-- ==== Proof.ExpertFrame.lean ====
/- The expert kernel's run: what its output block and its scratch arrays hold after every grid point, the body at every
   point, the launch, and the argument arrays left as they were. -/
module

public import proofs.«01_k».proof.Proof.ExpertBody
public import Idealize.ShloMosaic.Lib.Claim

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The body at a grid point, on the memrefs it is called with. -/
abbrev bodyAt (hO : Ok m) (t : Fin (cfgM m hO).N) : Prog (TpuEff nD τ sig (Elt F) Λ₀ .tc) PUnit :=
  cc0_moe_experts (grid0.coords t) tbM0_0 htbM0_0 tbM0_1 htbM0_1 tbM0_2 htbM0_2 (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) scM0_0 (Memref.isWhole_whole _) scM0_1 (Memref.isWhole_whole _)

/-- The output window is written back at every point. -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-! ## The conditions -/

/-- A bit widened to a word and compared with zero is the bit. -/
theorem wide (b : Bool) : IntOp.cmpi .ne (BitVec.setWidth 32 (BitVec.ofBool b)) 0#32 = 1#1 ↔ b = true := by
  revert b; decide

/-- A point is used where its number is below the third table's word. -/
theorem cond2_iff (i : grid0.Coords) (w : BitVec 32) : k0_cond2 i w = 1#1 ↔ (BitVec.ofNat 32 (i 0).val).toInt < w.toInt := by
  rw [show k0_cond2 i w = IntOp.cmpi .ne (BitVec.setWidth 32 (IntOp.cmpi .slt (BitVec.ofNat 32 (i 0).val) w)) 0#32 from rfl,
    WordCmp.cmpi_slt_eq, wide, decide_eq_true_iff]

/-- A point is padding exactly where it is not used. -/
theorem cond3_iff (i : grid0.Coords) (w : BitVec 32) : k0_cond3 i w = 1#1 ↔ ¬ k0_cond2 i w = 1#1 := by
  rw [cond2_iff, show k0_cond3 i w = IntOp.cmpi .ne (BitVec.setWidth 32 (IntOp.cmpi .sge (BitVec.ofNat 32 (i 0).val) w)) 0#32 from rfl,
    WordCmp.cmpi_sge_eq, wide, decide_eq_true_iff, not_lt]

/-- A point begins an expert where its word of the second table is one and it is used. -/
theorem begins_iff (c : Dev nD) (i : grid0.Coords) (xt1 : TbBuf0 (F := F) c tbM0_1) (xt2 : TbBuf0 (F := F) c tbM0_2) :
    Begins c i xt1 xt2 ↔ firstWord c i xt1 = 1#32 ∧ Used c i xt2 := by
  unfold Begins Used
  rw [cond2_iff]
  generalize usedWord c xt2 = w
  generalize firstWord c i xt1 = u
  rw [show (Scalar.cmpi .ne (Scalar.extui (Scalar.andi (Scalar.cmpi .eq u 1#32) (Scalar.cmpi .slt (BitVec.ofNat 32 (i 0).val) w)) : BitVec 32) 0#32) =
    IntOp.cmpi .ne (BitVec.setWidth 32 (IntOp.andi (IntOp.cmpi .eq u 1#32) (IntOp.cmpi .slt (BitVec.ofNat 32 (i 0).val) w))) 0#32 from rfl,
    WordCmp.cmpi_slt_eq, WordCmp.cmpi_eq_eq, WordCmp.andi_ofBool, wide, Bool.and_eq_true, decide_eq_true_iff, decide_eq_true_iff]

/-- The output window is never idle: every point is used or padding. -/
theorem never_idle (pf : pre0.Contents (Elt F)) (i : grid0.Coords) : idle0 pf 5 i = false := by
  have e : idle0 pf 5 i = (!(k0_cond2 i (pf.atD 2 ![0]) == 1#1) && !(k0_cond3 i (pf.atD 2 ![0]) == 1#1)) := rfl
  rw [e]
  generalize pf.atD 2 ![0] = w
  have h := cond3_iff i w
  by_cases h2 : k0_cond2 i w = 1#1
  · simp [h2]
  · simp [h.mpr h2]

theorem never_idle_at (a : (pcfg0 (F := F)).Adm) (t : Fin (cfg0 a).N) : (cfg0 a).idle 5 (grid0.coords t) = false :=
  never_idle a.1 (grid0.coords t)

theorem live5 (hO : Ok m) (t : Fin (cfgM m hO).N) : (cfgM m hO).idle 5 (grid0.coords t) = false :=
  never_idle_at (adm m hO) t

/-! ## What the output block and the scratch arrays hold, point by point -/

/-- Whether point `t` is used. -/
abbrev UsedAt (hO : Ok m) (c : Dev nD) (t : Fin (cfgM m hO).N) : Prop := Used (F := F) c (grid0.coords t) (tbl m 2)

/-- Whether point `t` begins an expert. -/
abbrev BeginsAt (hO : Ok m) (c : Dev nD) (t : Fin (cfgM m hO).N) : Prop := Begins (F := F) c (grid0.coords t) (tbl m 1) (tbl m 2)

/-- Every used point that begins no expert follows a used point of the same expert. -/
def Follows (hO : Ok m) : Prop := ∀ (c : Dev nD) (t : Fin (cfgM m hO).N), UsedAt m hO c t → ¬BeginsAt m hO c t →
  ∃ s : Fin (cfgM m hO).N, s.val + 1 = t.val ∧ UsedAt m hO c s ∧ iblk m hO c 1 t = iblk m hO c 1 s ∧ iblk m hO c 3 t = iblk m hO c 3 s

/-- The output block after point `t`. -/
def outAt (hO : Ok m) (c : Dev nD) (t : Fin (cfgM m hO).N) : Vec F S512x1024 .bf16 :=
  if UsedAt m hO c t then mlp (iblk m hO c 0 t) (w1p (iblk m hO c 1 t)) (iblk m hO c 2 t) (w2p (iblk m hO c 3 t)) (iblk m hO c 4 t) else k0_pay5

/-- Before point `n` the scratch arrays hold the weights of the point before, if that was used. -/
def Held (hO : Ok m) (c : Dev nD) (n : ℕ) (s0 : Vec F S1024x2048 .bf16) (s1 : Vec F S1024x1024 .bf16) : Prop :=
  ∀ s : Fin (cfgM m hO).N, s.val + 1 = n → UsedAt m hO c s → s0 = w1p (iblk m hO c 1 s) ∧ s1 = w2p (iblk m hO c 3 s)

/-- What is carried into point `n`: the scratch arrays, the generator's register and the tables. -/
def carried (hO : Ok m) (c : Dev nD) (n : ℕ) : sProp (MT nD τ sig Unit (Elt F) ℕ (UR sig nD τ) ℕ) :=
  iprop((∃ s0, ∃ s1, ⌜Held m hO c n s0 s1⌝ ∗ owns (c : Thread nD τ) scM0_0 fullShare s0 ∗ owns (c : Thread nD τ) scM0_1 fullShare s1)
    ∗ (∃ r, prngReg c r) ∗ Pipeline.ΦT pre0 (tbl m) c)

/-- The pipeline's proof data: the arrays as the region finds them, every input's block left in place, the output's block
    `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := carried m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body at a point -/

/-- What the body is called with at point `t`, the windows one by one, -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 4000000 in
/-- The body at any point: the tables' words say whether the block begins an expert, continues one or is padding; the run of
    that case applies, its scratch and output read back by the closed forms. -/
theorem sound_body (hO : Ok m) (hF : Follows m hO) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0_0, before0_1, before0_2, before0_3, before0_4]
  rw [show (dats m hO 0 c).owesAt () t.succ = (dats m hO 0 c).owesAt () t.castSucc from rfl]
  rw [show (dats m hO 0 c).Φ t.succ = carried m hO c (t.val + 1) from rfl, show (dats m hO 0 c).Φ t.castSucc = carried m hO c t.val from rfl]
  unfold carried
  rw [PhiT0_eq]
  rw [show (dats m hO 0 c).leavesExact 0 t = owns (c : Thread nD τ) (ms0_0 m hO t) fullShare ((dats m hO 0 c).after 0 t) from by
    unfold Dat.leavesExact; rw [live0 m hO t]; try rfl, after0_0]
  rw [show (dats m hO 0 c).leavesExact 1 t = owns (c : Thread nD τ) (ms0_1 m hO t) fullShare ((dats m hO 0 c).after 1 t) from by
    unfold Dat.leavesExact; rw [live1 m hO t]; try rfl, after0_1]
  rw [show (dats m hO 0 c).leavesExact 2 t = owns (c : Thread nD τ) (ms0_2 m hO t) fullShare ((dats m hO 0 c).after 2 t) from by
    unfold Dat.leavesExact; rw [live2 m hO t]; try rfl, after0_2]
  rw [show (dats m hO 0 c).leavesExact 3 t = owns (c : Thread nD τ) (ms0_3 m hO t) fullShare ((dats m hO 0 c).after 3 t) from by
    unfold Dat.leavesExact; rw [live3 m hO t]; try rfl, after0_3]
  rw [show (dats m hO 0 c).leavesExact 4 t = owns (c : Thread nD τ) (ms0_4 m hO t) fullShare ((dats m hO 0 c).after 4 t) from by
    unfold Dat.leavesExact; rw [live4 m hO t]; try rfl, after0_4]
  rw [show (dats m hO 0 c).leavesExact 5 t = owns (c : Thread nD τ) (ms0_5 m hO t) fullShare ((dats m hO 0 c).after 5 t) from by
    unfold Dat.leavesExact; rw [live5 m hO t]; try rfl, after0_5]
  iintro ⟨⟨⟨%s0, %s1, %hs, HS0, HS1⟩, Hg, HT0, HT1, HT2⟩, Ho, ⟨%d0, H0⟩, ⟨%d1, H1⟩, ⟨%d2, H2⟩, ⟨%d3, H3⟩, ⟨%d4, H4⟩, ⟨%d5, H5⟩⟩
  by_cases hu : UsedAt m hO c t
  swap
  · have hb : ¬BeginsAt m hO c t := fun h => hu ((begins_iff _ _ _ _).mp h).2
    have hp : Padding (F := F) c (grid0.coords t) (tbl m 2) := (cond3_iff _ _).mpr hu
    iapply ((runC c (grid0.coords t) _ _ _ _ _ _ _ _ _ _ _ _ _ _ _ _ (iblk m hO c 0 t) (iblk m hO c 1 t) (iblk m hO c 2 t) (iblk m hO c 3 t) (iblk m hO c 4 t) (tbl m 0) (tbl m 1) (tbl m 2) s0 s1 hb hu hp).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    isplitl [HT2]; · iexact HT2
    iintro ⟨H0, H1, H2, H3, H4, ⟨%e5, H5⟩, HS0, HS1, HT0, HT1, HT2⟩
    isplitl [HS0 HS1 Hg HT0 HT1 HT2]
    · isplitl [HS0 HS1]
      · iexists s0; iexists s1; isplitr
        · ipureintro
          intro s hs hus
          obtain rfl : s = t := Fin.ext (by omega)
          exact absurd hus hu
        isplitl [HS0]; · iexact HS0
        iexact HS1
      isplitl [Hg]; · iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact (View.read_writes_of_cover _ _ _ _ _ (cov_C c _ _ _ _ _ _ _ _ _ _ _ _ _ _ _ _ _ _ _ _ _ _ _ _ _ _ _ hb hu hp)).trans ((out_C c _ _ _ _ _ _ _ _ _ _ _ _ _ _ _ _ _ _ _ _ _ _ _ _ _ _ _ hb hu hp).trans (if_neg hu).symm)
  have hp : ¬Padding (F := F) c (grid0.coords t) (tbl m 2) := fun h => (cond3_iff _ _).mp h hu
  by_cases hb : BeginsAt m hO c t
  · iapply ((runA c (grid0.coords t) _ _ _ _ _ _ _ _ _ _ _ _ _ _ _ _ (iblk m hO c 0 t) (iblk m hO c 1 t) (iblk m hO c 2 t) (iblk m hO c 3 t) (iblk m hO c 4 t) (tbl m 0) (tbl m 1) (tbl m 2) hb hu hp).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    isplitl [HT0]; · iexact HT0
    isplitl [HT1]; · iexact HT1
    isplitl [HT2]; · iexact HT2
    iintro ⟨H0, H1, H2, H3, H4, ⟨%e5, H5⟩, ⟨%es0, HS0⟩, ⟨%es1, HS1⟩, HT0, HT1, HT2⟩
    isplitl [HS0 HS1 Hg HT0 HT1 HT2]
    · isplitl [HS0 HS1]
      · iexists (w1p (iblk m hO c 1 t)); iexists (w2p (iblk m hO c 3 t)); isplitr
        · ipureintro
          intro s hs _
          obtain rfl : s = t := Fin.ext (by omega)
          exact ⟨rfl, rfl⟩
        isplitl [HS0]
        · unfold owns; iexists _; isplitr
          swap; · iexact HS0
          ipureintro; exact (View.read_writes_of_cover _ _ _ _ _ (cov0_A c _ _ _ _ _ _ _ _ _ _ _ _ _ _ _ _ _ _ _ _ _ _ _ _ _ hb hu hp)).trans (scr0_A c _ _ _ _ _ _ _ _ _ _ _ _ _ _ _ _ _ _ _ _ _ _ _ _ _ hb hu hp)
        unfold owns; iexists _; isplitr
        swap; · iexact HS1
        ipureintro; exact (View.read_writes_of_cover _ _ _ _ _ (cov1_A c _ _ _ _ _ _ _ _ _ _ _ _ _ _ _ _ _ _ _ _ _ _ _ _ _ hb hu hp)).trans (scr1_A c _ _ _ _ _ _ _ _ _ _ _ _ _ _ _ _ _ _ _ _ _ _ _ _ _ hb hu hp)
      isplitl [Hg]; · iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact (View.read_writes_of_cover _ _ _ _ _ (cov_A c _ _ _ _ _ _ _ _ _ _ _ _ _ _ _ _ _ _ _ _ _ _ _ _ _ hb hu hp)).trans ((out_A c _ _ _ _ _ _ _ _ _ _ _ _ _ _ _ _ _ _ _ _ _ _ _ _ _ hb hu hp).trans (if_pos hu).symm)
  · obtain ⟨s, hst, hus, h1, h3⟩ := hF c t hu hb
    have e0 : s0 = w1p (iblk m hO c 1 t) := by rw [h1]; exact (hs s hst hus).1
    have e1 : s1 = w2p (iblk m hO c 3 t) := by rw [h3]; exact (hs s hst hus).2
    iapply ((runB c (grid0.coords t) _ _ _ _ _ _ _ _ _ _ _ _ _ _ _ _ (iblk m hO c 0 t) (iblk m hO c 1 t) (iblk m hO c 2 t) (iblk m hO c 3 t) (iblk m hO c 4 t) (tbl m 0) (tbl m 1) (tbl m 2) s0 s1 hb hu hp).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    isplitl [HT2]; · iexact HT2
    iintro ⟨H0, H1, H2, H3, H4, ⟨%e5, H5⟩, HS0, HS1, HT0, HT1, HT2⟩
    isplitl [HS0 HS1 Hg HT0 HT1 HT2]
    · isplitl [HS0 HS1]
      · iexists s0; iexists s1; isplitr
        · ipureintro
          intro s hs _
          obtain rfl : s = t := Fin.ext (by omega)
          exact ⟨e0, e1⟩
        isplitl [HS0]; · iexact HS0
        iexact HS1
      isplitl [Hg]; · iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact (View.read_writes_of_cover _ _ _ _ _ (cov_B c _ _ _ _ _ _ _ _ _ _ _ _ _ _ _ _ _ _ _ _ _ _ _ _ _ _ _ hb hu hp)).trans ((out_B c _ _ _ _ _ _ _ _ _ _ _ _ _ _ _ _ _ _ _ _ _ _ _ _ _ _ _ hb hu hp).trans ((by rw [← e0, ← e1] : mlp _ s0 _ s1 _ = mlp _ (w1p (iblk m hO c 1 t)) _ (w2p (iblk m hO c 3 t)) _).trans (if_pos hu).symm))

/-- The body table's row at point `t`'s slots is the body as `bodyAt` spells it. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

set_option maxHeartbeats 2000000 in
/-- The body at every point, as the pipeline asks it. -/
theorem body_obligation (hO : Ok m) (hF : Follows m hO) (c : Dev nD) : BodyObligation (dats (F := F) m hO 0 c) (defs₀ (F := F)) Variants.none () Set.univ := fun t => by
  rw [bigSep_W0, bigSep_W0, defs₀_row m hO]
  exact triple_restated (sound_body m hO hF c t) rfl .rfl fun _ => .rfl

/-- What the launch hands the region is what is carried into the first point. -/
theorem hin (hO : Ok m) (c : Dev nD) : iprop(Pipeline.ΦA spec0 c ∗ Pipeline.ΦT pre0 (tbl m) c) ⊢ (dats m hO 0 c).Φ 0 := by
  rw [show (dats m hO 0 c).Φ 0 = carried m hO c 0 from rfl, PhiA0_eq]
  unfold carried
  iintro ⟨⟨⟨⟨%s0, HS0⟩, ⟨%s1, HS1⟩⟩, Hg⟩, HT⟩
  isplitl [HS0 HS1]
  · iexists s0; iexists s1; isplitr
    · ipureintro; intro s hs _; exact absurd hs (Nat.succ_ne_zero _)
    isplitl [HS0]; · iexact HS0
    iexact HS1
  isplitl [Hg]; · iexact Hg
  iexact HT

/-- After the last point the scratch arrays' contents are forgotten. -/
theorem hout (hO : Ok m) (c : Dev nD) : (dats m hO 0 c).Φ (Fin.last (cfgM m hO).N) ⊢ Pipeline.ΦA spec0 c := by
  rw [show (dats m hO 0 c).Φ (Fin.last (cfgM m hO).N) = carried m hO c (cfgM m hO).N from rfl, PhiA0_eq]
  unfold carried
  iintro ⟨⟨%s0, %s1, -, HS0, HS1⟩, Hg, -⟩
  isplitl [HS0 HS1]
  · isplitl [HS0]
    · iexists _; iexact HS0
    iexists _; iexact HS1
  iexact Hg

/-! ## The launch -/

set_option backward.isDefEq.respectTransparency.types false in
/-- From any memory with zero counters every run ends with the arrays at the proof data's contents and every counter zero. -/
theorem run_main_quiescent (hO : Ok m) (hF : Follows m hO) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hF c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The same without the counters. -/
theorem run_main (hO : Ok m) (hF : Follows m hO) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hF)

/-- The argument arrays end unchanged and every counter zero. -/
theorem frame (hO : Ok m) (hF : Follows m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ hO (dats m hO) (A_eq m hO) (run_main m ρ hO hF)) ((θ_run defs _ _).mono (fun _ h => h.2) (run_main_quiescent m ρ hO hF))

end Cert.Experts

end
-- ==== Proof.ExpertTables.lean ====
/- The tables the expert kernel runs from: the experts' numbers lie in the weight arrays, a used point that begins no
   expert follows a used point of the same expert, and what each window holds at a point. -/
module

public import proofs.«01_k».proof.Proof.ExpertFrame
public import Idealize.ShloMosaic.Lib.Pipeline.ValueKit
public import Idealize.ShloMosaic.Lib.Pointwise

@[expose] public section

set_option maxRecDepth 16384

noncomputable section

namespace Cert.Experts

open Cert.Kernel2Ideal Cert.Kernel2Ideal.Gen
open Idealize.ShloMosaic Idealize.ShloMosaic.TcCoe Idealize.SL.Sem

variable {F : FTy → Type} [FloatOps F]
variable (m : (ℓ : Loc nD τ sig) → Buf (Elt F) ℓ)

/-- The word of the first table at the point: the number of its expert. -/
def expertWord (pf : pre0.Contents (Elt F)) (i : grid0.Coords) : BitVec 32 :=
  pf.at 0 (Rect.unit (s := S288) ![(Scalar.indexCast (BitVec.ofNat 32 (i 0).val) : Index).toNat] S1.size (k0_off1_inb i)) numel1_S1

theorem row_toNat (n : Fin 288) : (Scalar.indexCast (BitVec.ofNat 32 n.val) : Index).toNat = n.val := by
  revert n; decide

/-- A coordinate's place in a table. -/
abbrev place (i : grid0.Coords) : Fin 288 := ⟨(i 0).val, (i 0).isLt⟩

theorem expertWord_eq (pf : pre0.Contents (Elt F)) (i : grid0.Coords) : expertWord pf i = (pf 0 : S288.Idx → BitVec 32) (ix1 (place i)) := by
  unfold expertWord
  refine congrArg (pf 0 : S288.Idx → BitVec 32) (funext fun a => Fin.ext ?_)
  have h := row_toNat (place i)
  fin_cases a
  show (Scalar.indexCast (BitVec.ofNat 32 (i 0).val) : Index).toNat + 1 * 0 = (i 0).val
  rw [Nat.mul_zero, Nat.add_zero]; exact h

theorem firstWord_eq (c : Dev nD) (i : grid0.Coords) (xt1 : S288.Idx → BitVec 32) : firstWord (F := F) c i xt1 = xt1 (ix1 (place i)) := by
  unfold firstWord
  refine congrArg xt1 (funext fun a => Fin.ext ?_)
  have h := row_toNat (place i)
  fin_cases a
  show (Scalar.indexCast (BitVec.ofNat 32 (i 0).val) : Index).toNat + 1 * 0 = (i 0).val
  rw [Nat.mul_zero, Nat.add_zero]; exact h

theorem usedWord_eq (c : Dev nD) (xt2 : S1.Idx → BitVec 32) : usedWord (F := F) c xt2 = xt2 (ix1 0) := by
  unfold usedWord
  refine congrArg xt2 (funext fun a => Fin.ext ?_)
  fin_cases a
  rfl

/-! ## The tables' contents -/

/-- The experts' numbers, block by block. -/
abbrev experts : S288.Idx → BitVec 32 := m (((0 : Dev nD) : Thread nD τ).loc main_arg0)
/-- How many blocks are used. -/
abbrev used : S1.Idx → BitVec 32 := m (((0 : Dev nD) : Thread nD τ).loc main_arg1)

theorem tbl_experts : tbl m 0 = experts m := V_kept m 0 main_arg0 (by decide)
theorem tbl_used : tbl m 2 = used m := V_kept m 0 main_arg1 (by decide)

set_option maxHeartbeats 2000000 in
/-- The second table: one at the first block, then one exactly where the expert's number changes. -/
theorem tbl_first : tbl m 1 = concatenate S288 0 [⟨S1, broadcastInDim S1 ![] bcast_S_S1 (constantI S_ 32 1#32)⟩,
    ⟨S287, extui 32 (cmpi .ne (extractStridedSlice S287 ![1] (experts m) slices_S288_S287_1) (extractStridedSlice S287 ![0] (experts m) slices_S288_S287_0)) natLt_1_32⟩] concatenates_S1_S287_S288_d0 := by
  show V m 0 main_v8 = _
  unfold V
  simp only [hostOps0, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  rfl

/-- The second table's entry. -/
theorem first_read (be : S288.Idx → BitVec 32) (t : Fin 288) :
    concatenate S288 0 [⟨S1, broadcastInDim S1 ![] bcast_S_S1 (constantI S_ 32 1#32)⟩,
    ⟨S287, extui 32 (cmpi .ne (extractStridedSlice S287 ![1] be slices_S288_S287_1) (extractStridedSlice S287 ![0] be slices_S288_S287_0)) natLt_1_32⟩] concatenates_S1_S287_S288_d0 (ix1 t) = if h : t.val < 1 then 1#32 else
      (IntOp.cmpi .ne (be (ix1 t)) (be (ix1 ⟨t.val - 1, by omega⟩))).setWidth 32 := by
  pointwise
  split
  · rfl
  · have e : (⟨1 + (t.val - 1), by omega⟩ : Fin 288) = t := Fin.ext (by show 1 + (t.val - 1) = t.val; omega)
    rw [e]

theorem first_word (be : S288.Idx → BitVec 32) (t : Fin 288) (hf : concatenate S288 0 [⟨S1, broadcastInDim S1 ![] bcast_S_S1 (constantI S_ 32 1#32)⟩,
    ⟨S287, extui 32 (cmpi .ne (extractStridedSlice S287 ![1] be slices_S288_S287_1) (extractStridedSlice S287 ![0] be slices_S288_S287_0)) natLt_1_32⟩] concatenates_S1_S287_S288_d0 (ix1 t) ≠ 1#32) :
    ∃ s : Fin 288, s.val + 1 = t.val ∧ be (ix1 t) = be (ix1 s) := by
  rw [first_read] at hf
  split at hf
  · exact absurd rfl hf
  · refine ⟨⟨t.val - 1, by omega⟩, by show t.val - 1 + 1 = t.val; omega, ?_⟩
    by_contra hne
    apply hf
    rw [WordCmp.cmpi_ne_eq, decide_eq_true hne]
    rfl

/-! ## The experts' numbers are in range -/

/-- Every expert's number is below the number of experts. -/
def InRange : Prop := ∀ t : Fin 288, (experts m (ix1 t)).toNat < 32

theorem ok_of (pf : pre0.Contents (Elt F)) (h : ∀ i, (expertWord pf i).toNat < 32) : ok0 pf := by
  refine ⟨fun i => ⟨?_, Or.inl rfl⟩, fun i => ⟨?_, Or.inl rfl⟩, fun i => ⟨?_, Or.inl rfl⟩, fun i => ⟨?_, Or.inl rfl⟩⟩
  · intro a
    have hi := h i
    fin_cases a
    · show (0 + 1) * 1 ≤ 4
      decide
    · show ((expertWord pf i).toNat + 1) * 1 ≤ 32
      omega
    · exact (by decide : (0 + 1) * 1024 ≤ 1024)
    · exact (by decide : (0 + 1) * 2048 ≤ 2048)
  · intro a
    have hi := h i
    fin_cases a
    · show (0 + 1) * 1 ≤ 4
      decide
    · show ((expertWord pf i).toNat + 1) * 1 ≤ 32
      omega
    · exact (by decide : (0 + 1) * 1 ≤ 1)
    · exact (by decide : (0 + 1) * 2048 ≤ 2048)
  · intro a
    have hi := h i
    fin_cases a
    · show (0 + 1) * 1 ≤ 4
      decide
    · show ((expertWord pf i).toNat + 1) * 1 ≤ 32
      omega
    · exact (by decide : (0 + 1) * 1024 ≤ 1024)
    · exact (by decide : (0 + 1) * 1024 ≤ 1024)
  · intro a
    have hi := h i
    fin_cases a
    · show (0 + 1) * 1 ≤ 4
      decide
    · show ((expertWord pf i).toNat + 1) * 1 ≤ 32
      omega
    · exact (by decide : (0 + 1) * 1 ≤ 1)
    · exact (by decide : (0 + 1) * 1024 ≤ 1024)

theorem ok_of_inRange (h : InRange m) : Ok m := ok_of _ fun i => by
  rw [expertWord_eq, tbl_experts]; exact h _

/-! ## Where the windows' blocks lie -/

theorem coords_val : ∀ t : Fin grid0.N, (grid0.coords t 0).val = t.val := by decide +kernel

section Blocks
variable (a : (pcfg0 (F := F)).Adm) (t : Fin (cfg0 a).N)

theorem pt_lt : t.val < 288 := lt_of_lt_of_eq t.isLt N_0

/-- The point as a row of the tables. -/
abbrev pt : Fin 288 := ⟨t.val, pt_lt a t⟩

theorem coord_toNat : (BitVec.ofNat 32 (grid0.coords t 0).val).toNat = t.val := by
  rw [show (grid0.coords t 0).val = t.val from coords_val t, BitVec.toNat_ofNat]
  exact Nat.mod_eq_of_lt (lt_trans (pt_lt a t) (by decide))

theorem emb_rows (y : S512x512.Idx) : (((cfg0 a).win 0).blk t).view.emb y = (ix2 ⟨t.val * 512 + (y 0).val, by
    have h1 := pt_lt a t; have h2 := (y 0).isLt; change (y 0).val < 512 at h2; omega⟩ (y 1) : S147456x512.Idx) := by
  have h0 := coord_toNat a t
  funext k
  refine Fin.ext ?_
  fin_cases k
  · show (BitVec.ofNat 32 (grid0.coords t 0).val).toNat * 512 + 1 * (y 0).val = t.val * 512 + (y 0).val
    rw [h0]; omega
  · show 0 * 512 + 1 * (y 1).val = (y 1).val
    omega

theorem emb_out (y : S512x1024.Idx) : (((cfg0 a).win 5).blk t).view.emb y = (ix2 ⟨t.val * 512 + (y 0).val, by
    have h1 := pt_lt a t; have h2 := (y 0).isLt; change (y 0).val < 512 at h2; omega⟩ (y 1) : S147456x1024.Idx) := by
  have h0 := coord_toNat a t
  funext k
  refine Fin.ext ?_
  fin_cases k
  · show (BitVec.ofNat 32 (grid0.coords t 0).val).toNat * 512 + 1 * (y 0).val = t.val * 512 + (y 0).val
    rw [h0]; omega
  · show 0 * 1024 + 1 * (y 1).val = (y 1).val
    omega

theorem emb_w1 (y : S1x1x1024x2048.Idx) (e : Fin 32) (he : (expertWord a.1 (grid0.coords t)).toNat = e.val) :
    (((cfg0 a).win 1).blk t).view.emb y = (ix4 0 e (y 2) (y 3) : S4x32x1024x2048.Idx) := by
  funext k
  refine Fin.ext ?_
  fin_cases k
  · show 0 * 1 + 1 * (y 0).val = 0
    have h2 := (y 0).isLt; change (y 0).val < 1 at h2; omega
  · show (expertWord a.1 (grid0.coords t)).toNat * 1 + 1 * (y 1).val = e.val
    have h2 := (y 1).isLt; change (y 1).val < 1 at h2; omega
  · show 0 * 1024 + 1 * (y 2).val = (y 2).val
    omega
  · show 0 * 2048 + 1 * (y 3).val = (y 3).val
    omega

theorem emb_b1 (y : S1x1x1x2048.Idx) (e : Fin 32) (he : (expertWord a.1 (grid0.coords t)).toNat = e.val) :
    (((cfg0 a).win 2).blk t).view.emb y = (ix4 0 e (y 2) (y 3) : S4x32x1x2048.Idx) := by
  funext k
  refine Fin.ext ?_
  fin_cases k
  · show 0 * 1 + 1 * (y 0).val = 0
    have h2 := (y 0).isLt; change (y 0).val < 1 at h2; omega
  · show (expertWord a.1 (grid0.coords t)).toNat * 1 + 1 * (y 1).val = e.val
    have h2 := (y 1).isLt; change (y 1).val < 1 at h2; omega
  · show 0 * 1 + 1 * (y 2).val = (y 2).val
    omega
  · show 0 * 2048 + 1 * (y 3).val = (y 3).val
    omega

theorem emb_w2 (y : S1x1x1024x1024.Idx) (e : Fin 32) (he : (expertWord a.1 (grid0.coords t)).toNat = e.val) :
    (((cfg0 a).win 3).blk t).view.emb y = (ix4 0 e (y 2) (y 3) : S4x32x1024x1024.Idx) := by
  funext k
  refine Fin.ext ?_
  fin_cases k
  · show 0 * 1 + 1 * (y 0).val = 0
    have h2 := (y 0).isLt; change (y 0).val < 1 at h2; omega
  · show (expertWord a.1 (grid0.coords t)).toNat * 1 + 1 * (y 1).val = e.val
    have h2 := (y 1).isLt; change (y 1).val < 1 at h2; omega
  · show 0 * 1024 + 1 * (y 2).val = (y 2).val
    omega
  · show 0 * 1024 + 1 * (y 3).val = (y 3).val
    omega

theorem emb_b2 (y : S1x1x1x1024.Idx) (e : Fin 32) (he : (expertWord a.1 (grid0.coords t)).toNat = e.val) :
    (((cfg0 a).win 4).blk t).view.emb y = (ix4 0 e (y 2) (y 3) : S4x32x1x1024.Idx) := by
  funext k
  refine Fin.ext ?_
  fin_cases k
  · show 0 * 1 + 1 * (y 0).val = 0
    have h2 := (y 0).isLt; change (y 0).val < 1 at h2; omega
  · show (expertWord a.1 (grid0.coords t)).toNat * 1 + 1 * (y 1).val = e.val
    have h2 := (y 1).isLt; change (y 1).val < 1 at h2; omega
  · show 0 * 1 + 1 * (y 2).val = (y 2).val
    omega
  · show 0 * 1024 + 1 * (y 3).val = (y 3).val
    omega

end Blocks

/-! ## What the windows hold -/

/-- The expert of a block. -/
def expertAt (h : InRange m) (t : Fin 288) : Fin 32 := ⟨(experts m (ix1 t)).toNat, h t⟩

section Reads
variable (hO : Ok m) (h : InRange m) (c : Dev nD) (t : Fin (cfgM m hO).N)

theorem word_eq : (expertWord (adm m hO).1 (grid0.coords t)).toNat = (expertAt m h (pt (adm m hO) t)).val := by
  rw [expertWord_eq]
  have e : place (grid0.coords t) = pt (adm m hO) t := Fin.ext (coords_val t)
  rw [e]
  show (tbl m 0 (ix1 (pt (adm m hO) t)) : BitVec 32).toNat = (experts m (ix1 (pt (adm m hO) t)) : BitVec 32).toNat
  rw [tbl_experts]

theorem iblk_rows (y : S512x512.Idx) : iblk m hO c 0 t y = m ((c : Thread nD τ).loc main_arg2) (ix2 ⟨t.val * 512 + (y 0).val, by
    have h1 := pt_lt (adm m hO) t; have h2 := (y 0).isLt; change (y 0).val < 512 at h2; omega⟩ (y 1) : S147456x512.Idx) := by
  have e := V_kept m c main_arg2 (by decide)
  show V m c main_arg2 ((((cfg0 (adm m hO)).win 0).blk t).view.emb y) = _
  rw [e]
  exact congrArg _ (emb_rows (adm m hO) t y)

theorem iblk_w1 (y : S1x1x1024x2048.Idx) : iblk m hO c 1 t y = m ((c : Thread nD τ).loc main_arg3) (ix4 0 (expertAt m h (pt (adm m hO) t)) (y 2) (y 3) : S4x32x1024x2048.Idx) := by
  have e := V_kept m c main_arg3 (by decide)
  show V m c main_arg3 ((((cfg0 (adm m hO)).win 1).blk t).view.emb y) = _
  rw [e]
  exact congrArg _ (emb_w1 (adm m hO) t y _ (word_eq m hO h t))

theorem iblk_b1 (y : S1x1x1x2048.Idx) : iblk m hO c 2 t y = V m c main_v9 (ix4 0 (expertAt m h (pt (adm m hO) t)) (y 2) (y 3) : S4x32x1x2048.Idx) :=
  congrArg (V m c main_v9) (emb_b1 (adm m hO) t y _ (word_eq m hO h t))

theorem iblk_w2 (y : S1x1x1024x1024.Idx) : iblk m hO c 3 t y = m ((c : Thread nD τ).loc main_arg5) (ix4 0 (expertAt m h (pt (adm m hO) t)) (y 2) (y 3) : S4x32x1024x1024.Idx) := by
  have e := V_kept m c main_arg5 (by decide)
  show V m c main_arg5 ((((cfg0 (adm m hO)).win 3).blk t).view.emb y) = _
  rw [e]
  exact congrArg _ (emb_w2 (adm m hO) t y _ (word_eq m hO h t))

theorem iblk_b2 (y : S1x1x1x1024.Idx) : iblk m hO c 4 t y = V m c main_v10 (ix4 0 (expertAt m h (pt (adm m hO) t)) (y 2) (y 3) : S4x32x1x1024.Idx) :=
  congrArg (V m c main_v10) (emb_b2 (adm m hO) t y _ (word_eq m hO h t))

end Reads

/-- Whether a point is used, by its number. -/
theorem used_iff (hO : Ok m) (c : Dev nD) (t : Fin (cfgM m hO).N) : UsedAt m hO c t ↔ (BitVec.ofNat 32 t.val).toInt < (used m (ix1 0)).toInt := by
  have h1 : UsedAt m hO c t ↔ (BitVec.ofNat 32 (grid0.coords t 0).val).toInt < (usedWord (F := F) c (tbl m 2)).toInt := cond2_iff _ _
  have h2 : usedWord (F := F) c (tbl m 2) = used m (ix1 0) := (usedWord_eq c _).trans (congrFun (tbl_used m) _)
  rw [h1, h2, show (grid0.coords t 0).val = t.val from coords_val t]

/-- A used point that begins no expert follows a used point of the same expert. -/
theorem follows (hO : Ok m) (h : InRange m) : Follows m hO := fun c t hu hb => by
  have hf : firstWord (F := F) c (grid0.coords t) (tbl m 1) ≠ 1#32 := fun e => hb ((begins_iff _ _ _ _).mpr ⟨e, hu⟩)
  have hw := (firstWord_eq (F := F) c (grid0.coords t) (tbl m 1)).trans
    ((congrArg (fun x => (tbl m 1 : S288.Idx → BitVec 32) (ix1 x)) (show place (grid0.coords t) = pt (adm m hO) t from Fin.ext (coords_val t))).trans (congrFun (tbl_first m) (ix1 (pt (adm m hO) t))))
  obtain ⟨s, hs, he⟩ := first_word (experts m) _ (fun e => hf (hw.trans e))
  have hs' : s.val + 1 = t.val := hs
  refine ⟨⟨s.val, lt_of_lt_of_eq s.isLt N_0.symm⟩, hs, ?_, ?_, ?_⟩
  · rw [used_iff] at hu ⊢
    refine lt_trans ?_ hu
    have ht := pt_lt (adm m hO) t
    show (BitVec.ofNat 32 s.val).toInt < _
    rw [WordCmp.toInt_ofNat_of_lt (by omega), WordCmp.toInt_ofNat_of_lt (by omega)]
    omega
  all_goals
    have hx : expertAt m h (pt (adm m hO) t) = expertAt m h (pt (adm m hO) ⟨s.val, lt_of_lt_of_eq s.isLt N_0.symm⟩) := Fin.ext (show (experts m (ix1 (pt (adm m hO) t)) : BitVec 32).toNat = (experts m (ix1 s) : BitVec 32).toNat by rw [he])
    funext y
  · rw [iblk_w1 m hO h c t y, iblk_w1 m hO h c _ y, hx]
  · rw [iblk_w2 m hO h c t y, iblk_w2 m hO h c _ y, hx]

end Cert.Experts

end
-- ==== Proof.ExpertBlock.lean ====
/- What the expert kernel computes from its blocks, entry by entry: the weights' columns sorted even before odd in
   strips, the hidden rows, the gated rows and the output rows. -/
module

public import proofs.«01_k».proof.Proof.ExpertBody
public import Idealize.ShloMosaic.Lib.Pipeline.ValueKit
public import Idealize.ShloMosaic.Lib.Pointwise

@[expose] public section

set_option maxRecDepth 16384

noncomputable section

namespace Cert.Experts

open Cert.Kernel2Ideal Cert.Kernel2Ideal.Gen
open Idealize.ShloMosaic Idealize.ShloMosaic.TcCoe Idealize.SL.Sem

/-- The column of the weight that is sorted into column `c` of a strip. -/
def source (c : Fin 256) : Fin 256 := if h : c.val < 128 then ⟨2 * c.val, by omega⟩ else ⟨2 * (c.val - 128) + 1, by omega⟩

theorem source_word : ∀ r c : Fin 256, IntOp.cmpi .eq (BitVec.ofNat 32 r.val)
    (Scalar.select (IntOp.cmpi .slt (BitVec.ofNat 32 c.val) 128#32) (IntOp.muli 2#32 (BitVec.ofNat 32 c.val)) (IntOp.addi (IntOp.muli 2#32 (IntOp.subi (BitVec.ofNat 32 c.val) 128#32)) 1#32)) = BitVec.ofBool (decide (r = source c)) := by
  decide +kernel

theorem sort_apply (r c : Fin 256) : k0_pay6 (F := Ideal) (ix2 r c) = if r = source c then 1 else 0 := by
  pointwise [k0_pay6]
  have h := source_word r c
  rw [h]
  by_cases e : r = source c
  · rw [if_pos e, decide_eq_true e]
    show ((((1 : BitVec 32).toInt : ℝ)) : EReal) = 1
    rw [show (1 : BitVec 32).toInt = 1 from rfl]
    norm_num
  · rw [if_neg e, decide_eq_false e]
    show ((((0 : BitVec 32).toInt : ℝ)) : EReal) = 0
    rw [show (0 : BitVec 32).toInt = 0 from rfl]
    norm_num

theorem strip_apply (y : FVec Ideal S1x1x1024x256 .f32) (k : Fin 1024) (c : Fin 256) : k0_pay1 (F := Ideal) k0_pay6 y (ix2 k c) = y (ix4 0 0 k (source c)) := by
  have h := sort_apply
  generalize k0_pay6 (F := Ideal) = P at h ⊢
  pointwise [k0_pay1]
  simp only [h, mul_ite, mul_one, mul_zero, Finset.sum_ite_eq', Finset.mem_univ, if_true]

/-- The gated product of a gate entry and a linear entry. -/
def gate (a b : EReal) : EReal :=
  min a (Ideal.ofBits .f32 0x40E00000#32) * Ideal.div 1 (1 + Ideal.exp (0 - Ideal.ofBits .f32 0x3FD9DB23#32 * min a (Ideal.ofBits .f32 0x40E00000#32))) * (min (Ideal.ofBits .f32 0x40E00000#32) (max (Ideal.ofBits .f32 0xC0E00000#32) b) + 1)

/-- The gated rows: a strip of 128 columns from the 256 hidden columns of the strip, gate entries before linear ones. -/
def gated (h : FVec Ideal S512x2048 .f32) (r : Fin 512) (f : Fin 1024) : EReal :=
  gate (h (ix2 r ⟨256 * (f.val / 128) + f.val % 128, by omega⟩)) (h (ix2 r ⟨256 * (f.val / 128) + 128 + f.val % 128, by omega⟩))

theorem gated_of (h : FVec Ideal S512x2048 .f32) (r : Fin 512) (f : Fin 1024) (p q : Fin 2048) (hp : p.val = 256 * (f.val / 128) + f.val % 128) (hq : q.val = 256 * (f.val / 128) + 128 + f.val % 128) :
    gate (h (ix2 r p)) (h (ix2 r q)) = gated h r f := by
  have ep : p = ⟨256 * (f.val / 128) + f.val % 128, by omega⟩ := Fin.ext hp
  have eq : q = ⟨256 * (f.val / 128) + 128 + f.val % 128, by omega⟩ := Fin.ext hq
  unfold gated
  exact congrArg₂ (fun a b => gate (h (ix2 r a)) (h (ix2 r b))) ep eq

theorem first_strip (x : IVec S512x512 32) (w : FVec Ideal S1024x2048 .bf16) (b : FVec Ideal S1x1x1x2048 .f32) (r : Fin 512) (c : Fin 128) :
    ((k0_pay15 x w b : FVec Ideal S512x128 .f32) (ix2 r c) : EReal) = gated (k0_pay14 x w b) r ⟨0 + c.val, by omega⟩ := by
  unfold k0_pay15
  generalize k0_pay14 (F := Ideal) x w b = h
  pointwise
  exact gated_of h r _ _ _ (by simp only; omega) (by simp only; omega)

theorem second_strip (x : IVec S512x512 32) (w : FVec Ideal S1024x2048 .bf16) (b : FVec Ideal S1x1x1x2048 .f32) (r : Fin 512) (c : Fin 128) :
    ((k0_pay18 (k0_pay16 x w b) (k0_pay17 x w b) : FVec Ideal S512x128 .f32) (ix2 r c) : EReal) = gated (k0_pay14 x w b) r ⟨128 + c.val, by omega⟩ := by
  unfold k0_pay17 k0_pay16
  generalize k0_pay14 (F := Ideal) x w b = h
  pointwise [k0_pay18]
  exact gated_of h r _ _ _ (by simp only; omega) (by simp only; omega)

theorem third_strip (x : IVec S512x512 32) (w : FVec Ideal S1024x2048 .bf16) (b : FVec Ideal S1x1x1x2048 .f32) (r : Fin 512) (c : Fin 128) :
    ((k0_pay19 (k0_pay14 x w b) : FVec Ideal S512x128 .f32) (ix2 r c) : EReal) = gated (k0_pay14 x w b) r ⟨256 + c.val, by omega⟩ := by
  generalize k0_pay14 (F := Ideal) x w b = h
  pointwise [k0_pay19]
  exact gated_of h r _ _ _ (by simp only; omega) (by simp only; omega)

theorem fourth_strip (x : IVec S512x512 32) (w : FVec Ideal S1024x2048 .bf16) (b : FVec Ideal S1x1x1x2048 .f32) (r : Fin 512) (c : Fin 128) :
    ((k0_pay22 (k0_pay20 (k0_pay14 x w b)) (k0_pay21 (k0_pay14 x w b)) (FloatOps.ofBits FTy.f32 3235905536#32) (FloatOps.ofBits FTy.f32 1088421888#32) : FVec Ideal S512x128 .f32) (ix2 r c) : EReal) = gated (k0_pay14 x w b) r ⟨384 + c.val, by omega⟩ := by
  generalize k0_pay14 (F := Ideal) x w b = h
  pointwise [k0_pay22, k0_pay21, k0_pay20]
  exact gated_of h r _ _ _ (by simp only; omega) (by simp only; omega)

theorem fifth_strip (x : IVec S512x512 32) (w : FVec Ideal S1024x2048 .bf16) (b : FVec Ideal S1x1x1x2048 .f32) (r : Fin 512) (c : Fin 128) :
    ((k0_pay23 (k0_pay14 x w b) : FVec Ideal S512x128 .f32) (ix2 r c) : EReal) = gated (k0_pay14 x w b) r ⟨512 + c.val, by omega⟩ := by
  generalize k0_pay14 (F := Ideal) x w b = h
  pointwise [k0_pay23]
  exact gated_of h r _ _ _ (by simp only; omega) (by simp only; omega)

theorem sixth_strip (x : IVec S512x512 32) (w : FVec Ideal S1024x2048 .bf16) (b : FVec Ideal S1x1x1x2048 .f32) (r : Fin 512) (c : Fin 128) :
    ((k0_pay26 (k0_pay24 (k0_pay14 x w b)) (FloatOps.ofBits FTy.f32 1088421888#32) (k0_pay25 (k0_pay14 x w b)) : FVec Ideal S512x128 .f32) (ix2 r c) : EReal) = gated (k0_pay14 x w b) r ⟨640 + c.val, by omega⟩ := by
  generalize k0_pay14 (F := Ideal) x w b = h
  pointwise [k0_pay26, k0_pay25, k0_pay24]
  exact gated_of h r _ _ _ (by simp only; omega) (by simp only; omega)

theorem seventh_strip (x : IVec S512x512 32) (w : FVec Ideal S1024x2048 .bf16) (b : FVec Ideal S1x1x1x2048 .f32) (r : Fin 512) (c : Fin 128) :
    ((k0_pay27 (k0_pay14 x w b) : FVec Ideal S512x128 .f32) (ix2 r c) : EReal) = gated (k0_pay14 x w b) r ⟨768 + c.val, by omega⟩ := by
  generalize k0_pay14 (F := Ideal) x w b = h
  pointwise [k0_pay27]
  exact gated_of h r _ _ _ (by simp only; omega) (by simp only; omega)

/-- Column `k` of a row whose words are `p`: the upper halves of the words, then the lower ones. -/
def column (p : Fin 512 → BitVec 32) (k : Fin 1024) : EReal :=
  if h : k.val < 512 then Ideal.ofBits .f32 (p ⟨k.val, h⟩ &&& 0xFFFF0000#32) else Ideal.ofBits .f32 (p ⟨k.val - 512, by omega⟩ <<< 16)

theorem column_upper (p : Fin 512 → BitVec 32) (l : Fin 512) : column p ⟨l.val, by omega⟩ = Ideal.ofBits .f32 (p l &&& 0xFFFF0000#32) :=
  dif_pos l.isLt

theorem column_lower (p : Fin 512 → BitVec 32) (l : Fin 512) : column p ⟨512 + l.val, by omega⟩ = Ideal.ofBits .f32 (p l <<< 16) := by
  refine (dif_neg (Nat.not_lt.mpr (Nat.le_add_right _ _))).trans ?_
  exact congrArg (fun q => Ideal.ofBits .f32 (p q <<< 16)) (Fin.ext (Nat.add_sub_cancel_left _ _))

theorem hid_apply (x : IVec S512x512 32) (w : FVec Ideal S1024x2048 .bf16) (b : FVec Ideal S1x1x1x2048 .f32) (r : Fin 512) (c : Fin 2048) :
    k0_pay14 (F := Ideal) x w b (ix2 r c) = (∑ k : Fin 1024, column (fun l => x (ix2 r l)) k * w (ix2 k c)) + b (ix4 0 0 0 c) := by
  pointwise [k0_pay14]
  refine congrArg (· + b (ix4 0 0 0 c)) (Eq.trans ?_ (Fin.sum_univ_add (a := 512) (b := 512) fun k : Fin 1024 => column (fun l => x (ix2 r l)) k * w (ix2 k c)).symm)
  refine congrArg₂ (· + ·) (Finset.sum_congr rfl fun l _ => ?_) (Finset.sum_congr rfl fun l _ => ?_)
  · exact congrArg (· * w (ix2 ⟨l.val, by omega⟩ c)) (column_upper (fun l => x (ix2 r l)) l).symm
  · exact congrArg (· * w (ix2 ⟨512 + l.val, by omega⟩ c)) (column_lower (fun l => x (ix2 r l)) l).symm

theorem down_apply (y : FVec Ideal S1x1x1024x1024 .f32) (k : Fin 1024) (c : Fin 1024) : w2p (F := Ideal) y (ix2 k c) = y (ix4 0 0 k c) := by
  pointwise [w2p, k0_pay3]

theorem pad_apply (r : Fin 512) (d : Fin 1024) : k0_pay5 (F := Ideal) (ix2 r d) = 0 := by
  pointwise [k0_pay5]

/-- The output rows from the eight strips. -/
theorem out_apply (s0 s1 s2 s3 s4 s5 s6 : FVec Ideal S512x128 .f32) (h : FVec Ideal S512x2048 .f32) (w2 : FVec Ideal S1024x1024 .bf16) (b2 : FVec Ideal S1x1x1x1024 .f32)
    (h0 : ∀ (r : Fin 512) (c : Fin 128), s0 (ix2 r c) = gated h r ⟨0 + c.val, by omega⟩)
    (h1 : ∀ (r : Fin 512) (c : Fin 128), s1 (ix2 r c) = gated h r ⟨128 + c.val, by omega⟩)
    (h2 : ∀ (r : Fin 512) (c : Fin 128), s2 (ix2 r c) = gated h r ⟨256 + c.val, by omega⟩)
    (h3 : ∀ (r : Fin 512) (c : Fin 128), s3 (ix2 r c) = gated h r ⟨384 + c.val, by omega⟩)
    (h4 : ∀ (r : Fin 512) (c : Fin 128), s4 (ix2 r c) = gated h r ⟨512 + c.val, by omega⟩)
    (h5 : ∀ (r : Fin 512) (c : Fin 128), s5 (ix2 r c) = gated h r ⟨640 + c.val, by omega⟩)
    (h6 : ∀ (r : Fin 512) (c : Fin 128), s6 (ix2 r c) = gated h r ⟨768 + c.val, by omega⟩)
    (r : Fin 512) (d : Fin 1024) :
    k0_pay4 (F := Ideal) s0 s1 s2 s3 s4 s5 s6 (k0_pay28 h) (k0_pay29 h) w2 b2 (ix2 r d) = (∑ f : Fin 1024, gated h r f * w2 (ix2 f d)) + b2 (ix4 0 0 0 d) := by
  unfold k0_pay4
  generalize hG : concatenate S512x1024 1 _ _ = G
  have e : ∀ f : Fin 1024, G (ix2 r f) = gated h r f := by
    intro f
    rw [← hG]
    pointwise [k0_pay28, k0_pay29]
    split_ifs <;> first
      | exact (h0 r _).trans (congrArg (gated h r) (Fin.ext (by simp only; omega)))
      | exact (h1 r _).trans (congrArg (gated h r) (Fin.ext (by simp only; omega)))
      | exact (h2 r _).trans (congrArg (gated h r) (Fin.ext (by simp only; omega)))
      | exact (h3 r _).trans (congrArg (gated h r) (Fin.ext (by simp only; omega)))
      | exact (h4 r _).trans (congrArg (gated h r) (Fin.ext (by simp only; omega)))
      | exact (h5 r _).trans (congrArg (gated h r) (Fin.ext (by simp only; omega)))
      | exact (h6 r _).trans (congrArg (gated h r) (Fin.ext (by simp only; omega)))
      | exact gated_of h r f _ _ (by simp only; omega) (by simp only; omega)
  pointwise
  simp only [e]

/-- The output block, entry by entry. -/
theorem mlp_apply (x : IVec S512x512 32) (w1 : FVec Ideal S1024x2048 .bf16) (b1 : FVec Ideal S1x1x1x2048 .f32) (w2 : FVec Ideal S1024x1024 .bf16) (b2 : FVec Ideal S1x1x1x1024 .f32) (r : Fin 512) (d : Fin 1024) :
    mlp (F := Ideal) x w1 b1 w2 b2 (ix2 r d) = (∑ f : Fin 1024, gated (k0_pay14 x w1 b1) r f * w2 (ix2 f d)) + b2 (ix4 0 0 0 d) :=
  out_apply _ _ _ _ _ _ _ (k0_pay14 x w1 b1) w2 b2 (first_strip x w1 b1) (second_strip x w1 b1) (third_strip x w1 b1) (fourth_strip x w1 b1)
    (fifth_strip x w1 b1) (sixth_strip x w1 b1) (seventh_strip x w1 b1) r d

/-- A column of the sorted first weight. -/
def sorted (y : FVec Ideal S1x1x1024x2048 .f32) (i : S1024x2048.Idx) : EReal :=
  y (ix4 0 0 (i 0) ⟨256 * ((i 1).val / 256) + (source ⟨(i 1).val % 256, by omega⟩).val, by
    have h := (i 1).isLt; change (i 1).val < 2048 at h; have := (source ⟨(i 1).val % 256, by omega⟩).isLt; omega⟩)

theorem sorted_of (y : FVec Ideal S1x1x1024x2048 .f32) (o : Nat) (ho : 256 * o + 256 ≤ 2048) (k : Fin 1024) (c : Fin 256) (i : S1024x2048.Idx)
    (h0 : (i 0).val = k.val) (h1 : (i 1).val = 256 * o + c.val) :
    y (ix4 0 0 k ⟨256 * o + (source c).val, by omega⟩) = sorted y i := by
  have e0 : k = i 0 := Fin.ext h0.symm
  have e1 : (⟨(i 1).val % 256, by omega⟩ : Fin 256) = c := Fin.ext (by simp only; omega)
  unfold sorted
  rw [e0]
  refine congrArg y (congrArg _ (Fin.ext ?_))
  simp only [e1]
  omega

theorem load_at (y : Vec Ideal S1x1x1024x2048 .f32) (o : Nat) (inb : ∀ a, (![0, 0, 0, o] : Fin 4 → ℕ) a + S1x1x1024x256.size a ≤ S1x1x1024x2048.size a) (ho : o + 256 ≤ 2048) (k : Fin 1024) (c : Fin 256) :
    (View.ld y (Rect.unit (s := S1x1x1024x2048) ![0, 0, 0, o] S1x1x1024x256.size inb) (ix4 0 0 k c) : EReal) = y (ix4 0 0 k ⟨o + c.val, by omega⟩) := by
  refine congrArg y (funext fun a => Fin.ext ?_)
  fin_cases a
  · rfl
  · rfl
  · show 0 + 1 * k.val = k.val
    omega
  · show o + 1 * c.val = o + c.val
    omega

/-- The first weight as the kernel holds it. -/
theorem first_weight (y : FVec Ideal S1x1x1024x2048 .f32) (i : S1024x2048.Idx) : w1p (F := Ideal) y i = sorted y i := by
  unfold w1p w1Strips
  canon_tiles x h
  case piece0 =>
    obtain ⟨k, c, rfl⟩ : ∃ (k : Fin 1024) (c : Fin 256), x = ix2 k c := ⟨x 0, x 1, (ix2_eta x).symm⟩
    simp only [ix2] at h0 h1
    exact (strip_apply _ k c).trans ((load_at y 1792 _ (by omega) k (source c)).trans (sorted_of y 7 (by omega) k c i (by omega) (by omega)))
  case piece1 =>
    obtain ⟨k, c, rfl⟩ : ∃ (k : Fin 1024) (c : Fin 256), x = ix2 k c := ⟨x 0, x 1, (ix2_eta x).symm⟩
    simp only [ix2] at h0 h1
    exact (strip_apply _ k c).trans ((load_at y 1536 _ (by omega) k (source c)).trans (sorted_of y 6 (by omega) k c i (by omega) (by omega)))
  case piece2 =>
    obtain ⟨k, c, rfl⟩ : ∃ (k : Fin 1024) (c : Fin 256), x = ix2 k c := ⟨x 0, x 1, (ix2_eta x).symm⟩
    simp only [ix2] at h0 h1
    exact (strip_apply _ k c).trans ((load_at y 1280 _ (by omega) k (source c)).trans (sorted_of y 5 (by omega) k c i (by omega) (by omega)))
  case piece3 =>
    obtain ⟨k, c, rfl⟩ : ∃ (k : Fin 1024) (c : Fin 256), x = ix2 k c := ⟨x 0, x 1, (ix2_eta x).symm⟩
    simp only [ix2] at h0 h1
    exact (strip_apply _ k c).trans ((load_at y 1024 _ (by omega) k (source c)).trans (sorted_of y 4 (by omega) k c i (by omega) (by omega)))
  case piece4 =>
    obtain ⟨k, c, rfl⟩ : ∃ (k : Fin 1024) (c : Fin 256), x = ix2 k c := ⟨x 0, x 1, (ix2_eta x).symm⟩
    simp only [ix2] at h0 h1
    exact (strip_apply _ k c).trans ((load_at y 768 _ (by omega) k (source c)).trans (sorted_of y 3 (by omega) k c i (by omega) (by omega)))
  case piece5 =>
    obtain ⟨k, c, rfl⟩ : ∃ (k : Fin 1024) (c : Fin 256), x = ix2 k c := ⟨x 0, x 1, (ix2_eta x).symm⟩
    simp only [ix2] at h0 h1
    exact (strip_apply _ k c).trans ((load_at y 512 _ (by omega) k (source c)).trans (sorted_of y 2 (by omega) k c i (by omega) (by omega)))
  case piece6 =>
    obtain ⟨k, c, rfl⟩ : ∃ (k : Fin 1024) (c : Fin 256), x = ix2 k c := ⟨x 0, x 1, (ix2_eta x).symm⟩
    simp only [ix2] at h0 h1
    exact (strip_apply _ k c).trans ((load_at y 256 _ (by omega) k (source c)).trans (sorted_of y 1 (by omega) k c i (by omega) (by omega)))
  case piece7 =>
    obtain ⟨k, c, rfl⟩ : ∃ (k : Fin 1024) (c : Fin 256), x = ix2 k c := ⟨x 0, x 1, (ix2_eta x).symm⟩
    simp only [ix2] at h0 h1
    exact (strip_apply _ k c).trans ((load_at y 0 _ (by omega) k (source c)).trans (sorted_of y 0 (by omega) k c i (by omega) (by omega)))

end Cert.Experts

end
-- ==== Proof.ExpertEntry.lean ====
/- The experts' output entry by entry, as a function of the argument arrays alone: what both programs are shown to compute. -/
module

public import proofs.«01_k».proof.Proof.ExpertBlock

@[expose] public section

set_option maxRecDepth 16384

noncomputable section

namespace Cert.Experts

open Cert.Kernel2Ideal Cert.Kernel2Ideal.Gen
open Idealize.ShloMosaic Idealize.ShloMosaic.TcCoe Idealize.SL.Sem

variable (be : IVec S288 32) (n : IVec S1 32) (x : IVec S147456x512 32) (w1 : FVec Ideal S4x32x1024x2048 .f32)
  (b1 : FVec Ideal S4x32x2048 .f32) (w2 : FVec Ideal S4x32x1024x1024 .f32) (b2 : FVec Ideal S4x32x1024 .f32)

/-- Hidden column `j` of row `i` under expert `e`. -/
def hiddenAt (e : Fin 32) (i : Fin 147456) (j : Fin 2048) : EReal :=
  (∑ k : Fin 1024, column (fun l => x (ix2 i l)) k * w1 (ix4 0 e k j)) + b1 (ix3 0 e j)

/-- Output column `d` of row `i` under expert `e`. -/
def rowAt (e : Fin 32) (i : Fin 147456) (d : Fin 1024) : EReal :=
  (∑ f : Fin 1024, gate (hiddenAt x w1 b1 e i ⟨2 * f.val, by omega⟩) (hiddenAt x w1 b1 e i ⟨2 * f.val + 1, by omega⟩) * w2 (ix4 0 e f d)) + b2 (ix3 0 e d)

/-- The block of a row. -/
abbrev blockOf (i : Fin 147456) : Fin 288 := ⟨i.val / 512, by omega⟩

/-- The output: a used block's rows under its expert, zero elsewhere. -/
def entry (h : ∀ t : Fin 288, (be (ix1 t)).toNat < 32) : FVec Ideal S147456x1024 .bf16 := fun y =>
  if (BitVec.ofNat 32 (blockOf (y 0)).val).toInt < (n (ix1 0)).toInt then
    rowAt x w1 b1 w2 b2 ⟨(be (ix1 (blockOf (y 0)))).toNat, h _⟩ (y 0) (y 1)
  else 0

end Cert.Experts

end
-- ==== Proof.ExpertOutput.lean ====
/- The expert kernel's output array: what each point writes, entry by entry, and the array after the run. -/
module

public import proofs.«01_k».proof.Proof.ExpertTables
public import proofs.«01_k».proof.Proof.ExpertEntry

@[expose] public section

set_option maxRecDepth 16384

noncomputable section

namespace Cert.Experts

open Cert.Kernel2Ideal Cert.Kernel2Ideal.Gen
open Idealize.ShloMosaic Idealize.ShloMosaic.TcCoe Idealize.SL.Sem

variable (m : (ℓ : Loc nD τ sig) → Buf (Elt Ideal) ℓ)

/-! ## The biases as the kernel is given them -/

set_option maxHeartbeats 2000000 in
theorem bias1_made (c : Dev nD) : V m c main_v9 = shapeCast _ (shapeCast _ (transpose S4x32x8x2x128 [0, 1, 2, 4, 3] (shapeCast _ (m ((c : Thread nD τ).loc main_arg4)) shapeCasts_S4x32x2048_S4x32x8x128x2) transposes_S4x32x8x128x2_S4x32x8x2x128_0_1_2_4_3) shapeCasts_S4x32x8x2x128_S4x32x2048) shapeCasts_S4x32x2048_S4x32x1x2048 := by
  unfold V
  simp only [hostOps0, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  rfl

set_option maxHeartbeats 2000000 in
theorem bias2_made (c : Dev nD) : V m c main_v10 = shapeCast _ (m ((c : Thread nD τ).loc main_arg6)) shapeCasts_S4x32x1024_S4x32x1x1024 := by
  unfold V
  simp only [hostOps0, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  rfl

theorem bias1_read (b : FVec Ideal S4x32x2048 .f32) (e : Fin 32) (j : Fin 2048) :
    shapeCast S4x32x1x2048 (shapeCast S4x32x2048 (transpose S4x32x8x2x128 [0, 1, 2, 4, 3] (shapeCast S4x32x8x128x2 b shapeCasts_S4x32x2048_S4x32x8x128x2) transposes_S4x32x8x128x2_S4x32x8x2x128_0_1_2_4_3) shapeCasts_S4x32x8x2x128_S4x32x2048) shapeCasts_S4x32x2048_S4x32x1x2048 (ix4 0 e 0 j) = b (ix3 0 e ⟨j.val / 256 * 256 + j.val % 128 * 2 + j.val / 128 % 2, by omega⟩) := by
  pointwise

theorem bias2_read (b : FVec Ideal S4x32x1024 .f32) (e : Fin 32) (d : Fin 1024) :
    shapeCast S4x32x1x1024 b shapeCasts_S4x32x1024_S4x32x1x1024 (ix4 0 e 0 d) = b (ix3 0 e d) := by
  pointwise

/-! ## What a point writes -/

/-- The column of the weight array a sorted column comes from. -/
def unsort (j : Fin 2048) : Fin 2048 := ⟨256 * (j.val / 256) + (source ⟨j.val % 256, by omega⟩).val, by
  have := (source ⟨j.val % 256, by omega⟩).isLt; omega⟩

theorem source_val (c : Fin 256) : (source c).val = c.val % 128 * 2 + c.val / 128 := by
  revert c; decide

theorem unsort_val (j : Fin 2048) : (unsort j).val = j.val / 256 * 256 + j.val % 128 * 2 + j.val / 128 % 2 := by
  show 256 * (j.val / 256) + (source ⟨j.val % 256, by omega⟩).val = _
  rw [source_val]
  show 256 * (j.val / 256) + (j.val % 256 % 128 * 2 + j.val % 256 / 128) = _
  omega

theorem unsort_even (f : Fin 1024) (j : Fin 2048) (hj : j.val = 256 * (f.val / 128) + f.val % 128) : unsort j = ⟨2 * f.val, by omega⟩ := by
  refine Fin.ext ?_
  rw [unsort_val]
  show _ = 2 * f.val
  omega

theorem unsort_odd (f : Fin 1024) (j : Fin 2048) (hj : j.val = 256 * (f.val / 128) + 128 + f.val % 128) : unsort j = ⟨2 * f.val + 1, by omega⟩ := by
  refine Fin.ext ?_
  rw [unsort_val]
  show _ = 2 * f.val + 1
  omega

section Points
variable (hO : Ok m) (h : InRange m) (c : Dev nD) (t : Fin (cfgM m hO).N)

/-- The argument arrays the experts read. -/
abbrev argX : IVec S147456x512 32 := m ((c : Thread nD τ).loc main_arg2)
abbrev argW1 : FVec Ideal S4x32x1024x2048 .f32 := m ((c : Thread nD τ).loc main_arg3)
abbrev argB1 : FVec Ideal S4x32x2048 .f32 := m ((c : Thread nD τ).loc main_arg4)
abbrev argW2 : FVec Ideal S4x32x1024x1024 .f32 := m ((c : Thread nD τ).loc main_arg5)
abbrev argB2 : FVec Ideal S4x32x1024 .f32 := m ((c : Thread nD τ).loc main_arg6)

/-- The expert of the point. -/
abbrev ex : Fin 32 := expertAt m h (pt (adm m hO) t)

theorem rows_at (r : Fin 512) (l : Fin 512) (i : Fin 147456) (hi : i.val = t.val * 512 + r.val) :
    (iblk m hO c 0 t : IVec S512x512 32) (ix2 r l) = argX m c (ix2 i l) :=
  (iblk_rows m hO c t (ix2 r l)).trans (congrArg (fun i' => argX m c (ix2 i' l)) (Fin.ext hi.symm))

theorem bias1_at (j : Fin 2048) : (iblk m hO c 2 t : FVec Ideal S1x1x1x2048 .f32) (ix4 0 0 0 j) = argB1 m c (ix3 0 (ex m hO h t) (unsort j)) := by
  refine (iblk_b1 m hO h c t (ix4 0 0 0 j)).trans ((congrFun (bias1_made m c) _).trans ((bias1_read _ _ j).trans ?_))
  exact congrArg (fun j' => argB1 m c (ix3 0 (ex m hO h t) j')) (Fin.ext (unsort_val j).symm)

theorem bias2_at (d : Fin 1024) : (iblk m hO c 4 t : FVec Ideal S1x1x1x1024 .f32) (ix4 0 0 0 d) = argB2 m c (ix3 0 (ex m hO h t) d) :=
  (iblk_b2 m hO h c t (ix4 0 0 0 d)).trans ((congrFun (bias2_made m c) _).trans (bias2_read _ _ d))

theorem weight1_at (k : Fin 1024) (j : Fin 2048) : w1p (F := Ideal) (iblk m hO c 1 t) (ix2 k j) = argW1 m c (ix4 0 (ex m hO h t) k (unsort j)) :=
  (first_weight _ (ix2 k j)).trans (iblk_w1 m hO h c t (ix4 0 0 k (unsort j)))

theorem weight2_at (f d : Fin 1024) : w2p (F := Ideal) (iblk m hO c 3 t) (ix2 f d) = argW2 m c (ix4 0 (ex m hO h t) f d) :=
  (down_apply _ f d).trans (iblk_w2 m hO h c t (ix4 0 0 f d))

/-- A hidden column as the kernel orders them. -/
theorem hidden_at (r : Fin 512) (j : Fin 2048) (i : Fin 147456) (hi : i.val = t.val * 512 + r.val) :
    k0_pay14 (F := Ideal) (iblk m hO c 0 t) (w1p (iblk m hO c 1 t)) (iblk m hO c 2 t) (ix2 r j) = hiddenAt (argX m c) (argW1 m c) (argB1 m c) (ex m hO h t) i (unsort j) := by
  refine (hid_apply _ _ _ r j).trans ?_
  unfold hiddenAt
  exact congrArg₂ (· + ·) (Finset.sum_congr rfl fun k _ => congrArg₂ (· * ·) (congrArg (fun p => column p k) (funext fun l => rows_at m hO c t r l i hi)) (weight1_at m hO h c t k j)) (bias1_at m hO h c t j)

theorem gated_at (r : Fin 512) (f : Fin 1024) (i : Fin 147456) (hi : i.val = t.val * 512 + r.val) :
    gated (k0_pay14 (F := Ideal) (iblk m hO c 0 t) (w1p (iblk m hO c 1 t)) (iblk m hO c 2 t)) r f
      = gate (hiddenAt (argX m c) (argW1 m c) (argB1 m c) (ex m hO h t) i ⟨2 * f.val, by omega⟩) (hiddenAt (argX m c) (argW1 m c) (argB1 m c) (ex m hO h t) i ⟨2 * f.val + 1, by omega⟩) := by
  unfold gated
  rw [hidden_at m hO h c t r _ i hi, hidden_at m hO h c t r _ i hi, unsort_even f _ rfl, unsort_odd f _ rfl]

/-- The rows a used point writes. -/
theorem mlp_at (r : Fin 512) (d : Fin 1024) (i : Fin 147456) (hi : i.val = t.val * 512 + r.val) :
    mlp (F := Ideal) (iblk m hO c 0 t) (w1p (iblk m hO c 1 t)) (iblk m hO c 2 t) (w2p (iblk m hO c 3 t)) (iblk m hO c 4 t) (ix2 r d)
      = rowAt (argX m c) (argW1 m c) (argB1 m c) (argW2 m c) (argB2 m c) (ex m hO h t) i d := by
  refine (mlp_apply _ _ _ _ _ r d).trans ?_
  unfold rowAt
  exact congrArg₂ (· + ·) (Finset.sum_congr rfl fun f _ => congrArg₂ (· * ·) (gated_at m hO h c t r f i hi) (weight2_at m hO h c t f d)) (bias2_at m hO h c t d)

end Points

/-! ## The array after the run -/

/-- The experts' output of the kernel's arguments. -/
def final (h : InRange m) (c : Dev nD) : FVec Ideal S147456x1024 .bf16 :=
  entry (experts m) (used m) (argX m c) (argW1 m c) (argB1 m c) (argW2 m c) (argB2 m c) h

theorem out_at (hO : Ok m) (h : InRange m) (c : Dev nD) (t : Fin (cfgM m hO).N) (r : Fin 512) (d : Fin 1024) (i : Fin 147456) (hi : i.val = t.val * 512 + r.val) :
    outAt m hO c t (ix2 r d) = final m h c (ix2 i d) := by
  have hb : blockOf i = pt (adm m hO) t := Fin.ext (show i.val / 512 = t.val by omega)
  have hf : final m h c (ix2 i d) = if (BitVec.ofNat 32 t.val).toInt < (used m (ix1 0)).toInt then
      rowAt (argX m c) (argW1 m c) (argB1 m c) (argW2 m c) (argB2 m c) (ex m hO h t) i d else 0 := by
    show (if (BitVec.ofNat 32 (blockOf i).val).toInt < (used m (ix1 0)).toInt then
      rowAt (argX m c) (argW1 m c) (argB1 m c) (argW2 m c) (argB2 m c) (expertAt m h (blockOf i)) i d else 0) = _
    rw [hb]
  rw [hf]
  unfold outAt
  by_cases hu : UsedAt m hO c t
  · rw [if_pos hu, if_pos ((used_iff m hO c t).mp hu)]
    exact mlp_at m hO h c t r d i hi
  · rw [if_neg hu, if_neg fun hh => hu ((used_iff m hO c t).mpr hh)]
    exact pad_apply r d

theorem mem_block (a : (pcfg0 (F := Ideal)).Adm) (t : Fin (cfg0 a).N) (y : S512x1024.Idx) (i : S147456x1024.Idx)
    (h0 : (i 0).val = t.val * 512 + (y 0).val) (h1 : i 1 = y 1) : i ∈ (((cfg0 a).win 5).blk t).view.set := by
  have e := emb_out a t y
  have e' : (ix2 ⟨t.val * 512 + (y 0).val, by have h2 := (i 0).isLt; change (i 0).val < 147456 at h2; omega⟩ (y 1) : S147456x1024.Idx) = i := by
    refine Eq.trans ?_ (ix2_eta i)
    exact congrArg₂ (fun k l => (ix2 k l : S147456x1024.Idx)) (Fin.ext h0.symm) h1.symm
  have hm := View.emb_mem_set (((cfg0 a).win 5).blk t).view y
  exact Eq.mp (congrArg (fun k => k ∈ (((cfg0 a).win 5).blk t).view.set) (e.trans e')) hm

theorem covered (a : (pcfg0 (F := Ideal)).Adm) (i : S147456x1024.Idx) : ∃ t : Fin (cfg0 a).N, ((cfg0 a).win 5).flush t = true ∧ i ∈ (((cfg0 a).win 5).blk t).view.set := by
  have h0 := (i 0).isLt
  change (i 0).val < 147456 at h0
  exact ⟨⟨(i 0).val / 512, lt_of_lt_of_eq (by omega : (i 0).val / 512 < 288) N_0.symm⟩, flush0_5 a _,
    mem_block a _ (ix2 ⟨(i 0).val % 512, by omega⟩ (i 1)) i (show (i 0).val = (i 0).val / 512 * 512 + (i 0).val % 512 by omega) rfl⟩

theorem out_block (hO : Ok m) (h : InRange m) (c : Dev nD) (t : Fin (cfgM m hO).N) (y : S512x1024.Idx) :
    outAt m hO c t y = final m h c ((((cfg0 (adm m hO)).win 5).blk t).view.emb y) := by
  obtain ⟨r, d, rfl⟩ : ∃ (r : Fin 512) (d : Fin 1024), y = ix2 r d := ⟨y 0, y 1, (ix2_eta y).symm⟩
  exact (out_at m hO h c t r d _ rfl).trans (congrArg (final m h c) (emb_out (adm m hO) t (ix2 r d)).symm)

/-- The kernel's output array after its run. -/
theorem arr_eq (hO : Ok m) (h : InRange m) (c : Dev nD) : (dats m hO 0 c).arrAt 5 (cfgM m hO).N = final m h c :=
  (dats m hO 0 c).arrAt_eq_of_emb 5 (final m h c) (fun t _ y => (congrFun (after0_5 m hO c t) _).trans (out_block m hO h c t y)) (covered (adm m hO))

end Cert.Experts

end
-- ==== Proof.ExpertReference.lean ====
/- The reference of the experts, entry by entry: each block's expert picked out of the weights, the hidden rows, the
   gated rows, the output rows, and the rows of the unused blocks zero. -/
module

public import proofs.«01_k».proof.Proof.Gen.Reference2Ideal.Run
public import proofs.«01_k».proof.Proof.ExpertEntry
public import Idealize.ShloMosaic.Lib.Pipeline.ValueKit
public import Idealize.ShloMosaic.Lib.Pointwise
public import Idealize.ShloMosaic.Lib.WordCmp

@[expose] public section

set_option maxRecDepth 16384

noncomputable section

namespace Cert.Reference2Ideal.Experts

open Cert.Reference2Ideal Cert.Reference2Ideal.Gen
open Idealize.ShloMosaic Idealize.ShloMosaic.TcCoe Idealize.SL.Sem

/-- The experts' numbers as the reference gathers by them: a negative one counted from the end. -/
def rows (be : IVec S288 32) : IVec S288x1 32 :=
  broadcastInDim S288x1 ![0] bcast_S288_S288x1_0 (select (cmpi .slt be (broadcastInDim S288 ![] bcast_S_S288 (constantI S_ 32 0#32))) (addi be (broadcastInDim S288 ![] bcast_S_S288 (constantI S_ 32 32#32))) be)

theorem rows_apply (be : IVec S288 32) (t : Fin 288) (h : (be (ix1 t)).toNat < 32) : rows be (ix2 t 0) = be (ix1 t) := by
  pointwise [rows]
  unfold Scalar.select
  rw [if_neg]
  intro e
  have e' : IntOp.cmpi .slt (be (ix1 t)) 0#32 = 1#1 := e
  rw [WordCmp.cmpi_slt_eq, WordCmp.toInt_eq_toNat_of_lt_half (by omega)] at e'
  rw [decide_eq_false (by simp)] at e'
  exact absurd e' (by decide)

/-- The first weights of the blocks' experts. -/
def weight1 (be : IVec S288 32) (w1 : FVec Ideal S4x32x1024x2048 .f32) : FVec Ideal S288x1024x2048 .f32 :=
  Host.gather gather_S32x1024x2048_S288x1_S288x1024x2048_12_0_n_n_0_1_110242048 (shapeCast _ (extractStridedSlice S1x32x1024x2048 ![0, 0, 0, 0] w1 slices_S4x32x1024x2048_S1x32x1024x2048_0_0_0_0) shapeCasts_S1x32x1024x2048_S32x1024x2048) (rows be)

/-- The first biases of the blocks' experts. -/
def bias1 (be : IVec S288 32) (b1 : FVec Ideal S4x32x2048 .f32) : FVec Ideal S288x2048 .f32 :=
  Host.gather gather_S32x2048_S288x1_S288x2048_1_0_n_n_0_1_12048 (shapeCast _ (extractStridedSlice S1x32x2048 ![0, 0, 0] b1 slices_S4x32x2048_S1x32x2048_0_0_0) shapeCasts_S1x32x2048_S32x2048) (rows be)

/-- The second weights of the blocks' experts. -/
def weight2 (be : IVec S288 32) (w2 : FVec Ideal S4x32x1024x1024 .f32) : FVec Ideal S288x1024x1024 .f32 :=
  Host.gather gather_S32x1024x1024_S288x1_S288x1024x1024_12_0_n_n_0_1_110241024 (shapeCast _ (extractStridedSlice S1x32x1024x1024 ![0, 0, 0, 0] w2 slices_S4x32x1024x1024_S1x32x1024x1024_0_0_0_0) shapeCasts_S1x32x1024x1024_S32x1024x1024) (rows be)

/-- The second biases of the blocks' experts. -/
def bias2 (be : IVec S288 32) (b2 : FVec Ideal S4x32x1024 .f32) : FVec Ideal S288x1024 .f32 :=
  Host.gather gather_S32x1024_S288x1_S288x1024_1_0_n_n_0_1_11024 (shapeCast _ (extractStridedSlice S1x32x1024 ![0, 0, 0] b2 slices_S4x32x1024_S1x32x1024_0_0_0) shapeCasts_S1x32x1024_S32x1024) (rows be)

/-- The rows from their words, block by block. -/
def unpacked (x : IVec S147456x512 32) : FVec Ideal S288x512x1024 .f32 :=
  shapeCast _ (concatenate S147456x1024 1 [⟨S147456x512, bitcastToFloat .f32 (andi x (broadcastInDim S147456x512 ![] bcast_S_S147456x512 (constantI S_ 32 4294901760#32)))⟩,
    ⟨S147456x512, bitcastToFloat .f32 (Host.shli x (broadcastInDim S147456x512 ![] bcast_S_S147456x512 (constantI S_ 32 16#32)))⟩] concatenates_S147456x512_S147456x512_S147456x1024_d1) shapeCasts_S147456x1024_S288x512x1024

/-- The hidden rows, block by block. -/
def hidden (x : FVec Ideal S288x512x1024 .f32) (w : FVec Ideal S288x1024x2048 .f32) (b : FVec Ideal S288x2048 .f32) : FVec Ideal S288x512x2048 .f32 :=
  addf (Host.dotGeneral dot_S288x512x1024_S288x1024x2048_S288x512x2048_2_1_1_2_0_0 none x w) (broadcastInDim S288x512x2048 ![0, 1, 2] bcast_S288x1x2048_S288x512x2048_0_1_2 (broadcastInDim S288x1x2048 ![0, 2] bcast_S288x2048_S288x1x2048_0_2 b))

/-- The gated rows. -/
def act (h : FVec Ideal S288x512x2048 .f32) : FVec Ideal S288x512x1024 .f32 :=
  mulf (mulf (minimumf (Host.slice S288x512x1024 ![0, 0, 0] ![1, 1, 2] h slicesBy_S288x512x2048_S288x512x1024_0s1_0s1_0s2) (broadcastInDim S288x512x1024 ![] bcast_S_S288x512x1024 (constant S_ .f32 0x40E00000#32))) (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (broadcastInDim S288x512x1024 ![] bcast_S_S288x512x1024 (constant S_ .f32 0x3FD9DB23#32)) (minimumf (Host.slice S288x512x1024 ![0, 0, 0] ![1, 1, 2] h slicesBy_S288x512x2048_S288x512x1024_0s1_0s1_0s2) (broadcastInDim S288x512x1024 ![] bcast_S_S288x512x1024 (constant S_ .f32 0x40E00000#32))))))))) (addf (minimumf (broadcastInDim S288x512x1024 ![] bcast_S_S288x512x1024 (id (constant S_ .f32 0x40E00000#32))) (maximumf (broadcastInDim S288x512x1024 ![] bcast_S_S288x512x1024 (id (constant S_ .f32 0xC0E00000#32))) (Host.slice S288x512x1024 ![0, 0, 1] ![1, 1, 2] h slicesBy_S288x512x2048_S288x512x1024_0s1_0s1_1s2))) (broadcastInDim S288x512x1024 ![] bcast_S_S288x512x1024 (constant S_ .f32 0x3F800000#32)))

/-- The output rows, block by block. -/
def down (a : FVec Ideal S288x512x1024 .f32) (w : FVec Ideal S288x1024x1024 .f32) (b : FVec Ideal S288x1024 .f32) : FVec Ideal S288x512x1024 .f32 :=
  addf (Host.dotGeneral dot_S288x512x1024_S288x1024x1024_S288x512x1024_2_1_1_2_0_0 none a w) (broadcastInDim S288x512x1024 ![0, 1, 2] bcast_S288x1x1024_S288x512x1024_0_1_2 (broadcastInDim S288x1x1024 ![0, 2] bcast_S288x1024_S288x1x1024_0_2 b))

/-- The output: the used blocks' rows, zero elsewhere. -/
def masked (n : IVec S1 32) (y : FVec Ideal S288x512x1024 .f32) : FVec Ideal S147456x1024 .bf16 :=
  truncf .bf16 (shapeCast _ (select (broadcastInDim S288x512x1024 ![0, 1, 2] bcast_S288x1x1_S288x512x1024_0_1_2 (broadcastInDim S288x1x1 ![0] bcast_S288_S288x1x1_0 (cmpi .slt (iotaInDim S288 32 0) (broadcastInDim S288 ![] bcast_S_S288 (shapeCast _ n shapeCasts_S1_S_))))) y (broadcastInDim S288x512x1024 ![] bcast_S_S288x512x1024 (id (constant S_ .f32 0x00000000#32)))) shapeCasts_S288x512x1024_S147456x1024) bitsLt_bf16_f32

/-- The reference's output as its arguments' function. -/
def output (be : IVec S288 32) (n : IVec S1 32) (x : IVec S147456x512 32) (w1 : FVec Ideal S4x32x1024x2048 .f32) (b1 : FVec Ideal S4x32x2048 .f32) (w2 : FVec Ideal S4x32x1024x1024 .f32) (b2 : FVec Ideal S4x32x1024 .f32) : FVec Ideal S147456x1024 .bf16 :=
  masked n (down (act (hidden (unpacked x) (weight1 be w1) (bias1 be b1))) (weight2 be w2) (bias2 be b2))

theorem res_eq (m : (ℓ : Loc nD τ sig) → Buf (Elt Ideal) ℓ) (c : Dev nD) : Value.res_out0 m c
    = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Value.res_out0 Value.res_main_v76 output masked down act hidden unpacked weight1 weight2 bias1 bias2 rows
  rfl

theorem pick_weight1 {α : Type} (x : S32x1024x2048.Idx → α) (idx : IVec S288x1 32) (t : Fin 288) (k : Fin 1024) (j : Fin 2048) (e : Fin 32) (he : idx (ix2 t 0) = BitVec.ofNat 32 e.val) :
    Host.gather gather_S32x1024x2048_S288x1_S288x1024x2048_12_0_n_n_0_1_110242048 x idx (ix3 t k j) = x (ix3 e k j) := by
  unfold Host.gather
  refine congrArg x (funext fun a => Fin.ext ?_)
  fin_cases a
  · show GatherDims.start gather_S32x1024x2048_S288x1_S288x1024x2048_12_0_n_n_0_1_110242048 (ix3 t k j) idx 0 + GatherDims.batchCoord gather_S32x1024x2048_S288x1_S288x1024x2048_12_0_n_n_0_1_110242048 (ix3 t k j) 0 + GatherDims.offCoord gather_S32x1024x2048_S288x1_S288x1024x2048_12_0_n_n_0_1_110242048 (ix3 t k j) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ GatherDims.startIndexMap gather_S32x1024x2048_S288x1_S288x1024x2048_12_0_n_n_0_1_110242048 from List.mem_singleton.mpr rfl)]
    have hsi : GatherDims.siIdx gather_S32x1024x2048_S288x1_S288x1024x2048_12_0_n_n_0_1_110242048 (ix3 t k j) ⟨List.idxOf (0 : Fin 3) (GatherDims.startIndexMap gather_S32x1024x2048_S288x1_S288x1024x2048_12_0_n_n_0_1_110242048),
        List.idxOf_lt_length_iff.2 (List.mem_singleton.mpr rfl)⟩ = ix2 t 0 := by
      funext b; refine Fin.ext ?_
      match b with
      | ⟨0, _⟩ => rfl
      | ⟨1, _⟩ => rfl
    have hl := e.isLt
    rw [hsi, he, WordCmp.toInt_ofNat_of_lt (by omega)]
    show min ((e.val : Int)).toNat (32 - 1) = e.val
    omega
  · show GatherDims.start gather_S32x1024x2048_S288x1_S288x1024x2048_12_0_n_n_0_1_110242048 (ix3 t k j) idx 1 + GatherDims.batchCoord gather_S32x1024x2048_S288x1_S288x1024x2048_12_0_n_n_0_1_110242048 (ix3 t k j) 1 + GatherDims.offCoord gather_S32x1024x2048_S288x1_S288x1024x2048_12_0_n_n_0_1_110242048 (ix3 t k j) 1 = k.val
    rw [GatherDims.batchCoord_eq_zero _ _ _ List.not_mem_nil]
    unfold GatherDims.start GatherDims.offCoord
    rw [dif_neg (show ¬ (1 : Fin 3) ∈ GatherDims.startIndexMap gather_S32x1024x2048_S288x1_S288x1024x2048_12_0_n_n_0_1_110242048 by decide), dif_pos (show (1 : Fin 3) ∈ GatherDims.sKept gather_S32x1024x2048_S288x1_S288x1024x2048_12_0_n_n_0_1_110242048 by decide)]
    simp only [Nat.zero_add, Nat.add_zero]
    rfl
  · show GatherDims.start gather_S32x1024x2048_S288x1_S288x1024x2048_12_0_n_n_0_1_110242048 (ix3 t k j) idx 2 + GatherDims.batchCoord gather_S32x1024x2048_S288x1_S288x1024x2048_12_0_n_n_0_1_110242048 (ix3 t k j) 2 + GatherDims.offCoord gather_S32x1024x2048_S288x1_S288x1024x2048_12_0_n_n_0_1_110242048 (ix3 t k j) 2 = j.val
    rw [GatherDims.batchCoord_eq_zero _ _ _ List.not_mem_nil]
    unfold GatherDims.start GatherDims.offCoord
    rw [dif_neg (show ¬ (2 : Fin 3) ∈ GatherDims.startIndexMap gather_S32x1024x2048_S288x1_S288x1024x2048_12_0_n_n_0_1_110242048 by decide), dif_pos (show (2 : Fin 3) ∈ GatherDims.sKept gather_S32x1024x2048_S288x1_S288x1024x2048_12_0_n_n_0_1_110242048 by decide)]
    simp only [Nat.zero_add, Nat.add_zero]
    rfl

theorem weight1_apply (be : IVec S288 32) (w1 : FVec Ideal S4x32x1024x2048 .f32) (t : Fin 288) (k : Fin 1024) (j : Fin 2048) (e : Fin 32) (he : (be (ix1 t)).toNat = e.val) :
    weight1 be w1 (ix3 t k j) = w1 (ix4 0 e k j) := by
  have hr : rows be (ix2 t 0) = BitVec.ofNat 32 e.val := by
    rw [rows_apply be t (by rw [he]; exact e.isLt), ← he, BitVec.ofNat_toNat, BitVec.setWidth_eq]
  unfold weight1
  refine (pick_weight1 _ _ t k j e hr).trans ?_
  pointwise

theorem pick_bias1 {α : Type} (x : S32x2048.Idx → α) (idx : IVec S288x1 32) (t : Fin 288) (j : Fin 2048) (e : Fin 32) (he : idx (ix2 t 0) = BitVec.ofNat 32 e.val) :
    Host.gather gather_S32x2048_S288x1_S288x2048_1_0_n_n_0_1_12048 x idx (ix2 t j) = x (ix2 e j) := by
  unfold Host.gather
  refine congrArg x (funext fun a => Fin.ext ?_)
  fin_cases a
  · show GatherDims.start gather_S32x2048_S288x1_S288x2048_1_0_n_n_0_1_12048 (ix2 t j) idx 0 + GatherDims.batchCoord gather_S32x2048_S288x1_S288x2048_1_0_n_n_0_1_12048 (ix2 t j) 0 + GatherDims.offCoord gather_S32x2048_S288x1_S288x2048_1_0_n_n_0_1_12048 (ix2 t j) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S32x2048_S288x1_S288x2048_1_0_n_n_0_1_12048 from List.mem_singleton.mpr rfl)]
    have hsi : GatherDims.siIdx gather_S32x2048_S288x1_S288x2048_1_0_n_n_0_1_12048 (ix2 t j) ⟨List.idxOf (0 : Fin 2) (GatherDims.startIndexMap gather_S32x2048_S288x1_S288x2048_1_0_n_n_0_1_12048),
        List.idxOf_lt_length_iff.2 (List.mem_singleton.mpr rfl)⟩ = ix2 t 0 := by
      funext b; refine Fin.ext ?_
      match b with
      | ⟨0, _⟩ => rfl
      | ⟨1, _⟩ => rfl
    have hl := e.isLt
    rw [hsi, he, WordCmp.toInt_ofNat_of_lt (by omega)]
    show min ((e.val : Int)).toNat (32 - 1) = e.val
    omega
  · show GatherDims.start gather_S32x2048_S288x1_S288x2048_1_0_n_n_0_1_12048 (ix2 t j) idx 1 + GatherDims.batchCoord gather_S32x2048_S288x1_S288x2048_1_0_n_n_0_1_12048 (ix2 t j) 1 + GatherDims.offCoord gather_S32x2048_S288x1_S288x2048_1_0_n_n_0_1_12048 (ix2 t j) 1 = j.val
    rw [GatherDims.batchCoord_eq_zero _ _ _ List.not_mem_nil]
    unfold GatherDims.start GatherDims.offCoord
    rw [dif_neg (show ¬ (1 : Fin 2) ∈ GatherDims.startIndexMap gather_S32x2048_S288x1_S288x2048_1_0_n_n_0_1_12048 by decide), dif_pos (show (1 : Fin 2) ∈ GatherDims.sKept gather_S32x2048_S288x1_S288x2048_1_0_n_n_0_1_12048 by decide)]
    simp only [Nat.zero_add, Nat.add_zero]
    rfl

theorem bias1_apply (be : IVec S288 32) (b1 : FVec Ideal S4x32x2048 .f32) (t : Fin 288) (j : Fin 2048) (e : Fin 32) (he : (be (ix1 t)).toNat = e.val) :
    bias1 be b1 (ix2 t j) = b1 (ix3 0 e j) := by
  have hr : rows be (ix2 t 0) = BitVec.ofNat 32 e.val := by
    rw [rows_apply be t (by rw [he]; exact e.isLt), ← he, BitVec.ofNat_toNat, BitVec.setWidth_eq]
  unfold bias1
  refine (pick_bias1 _ _ t j e hr).trans ?_
  pointwise

theorem pick_weight2 {α : Type} (x : S32x1024x1024.Idx → α) (idx : IVec S288x1 32) (t : Fin 288) (k : Fin 1024) (j : Fin 1024) (e : Fin 32) (he : idx (ix2 t 0) = BitVec.ofNat 32 e.val) :
    Host.gather gather_S32x1024x1024_S288x1_S288x1024x1024_12_0_n_n_0_1_110241024 x idx (ix3 t k j) = x (ix3 e k j) := by
  unfold Host.gather
  refine congrArg x (funext fun a => Fin.ext ?_)
  fin_cases a
  · show GatherDims.start gather_S32x1024x1024_S288x1_S288x1024x1024_12_0_n_n_0_1_110241024 (ix3 t k j) idx 0 + GatherDims.batchCoord gather_S32x1024x1024_S288x1_S288x1024x1024_12_0_n_n_0_1_110241024 (ix3 t k j) 0 + GatherDims.offCoord gather_S32x1024x1024_S288x1_S288x1024x1024_12_0_n_n_0_1_110241024 (ix3 t k j) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ GatherDims.startIndexMap gather_S32x1024x1024_S288x1_S288x1024x1024_12_0_n_n_0_1_110241024 from List.mem_singleton.mpr rfl)]
    have hsi : GatherDims.siIdx gather_S32x1024x1024_S288x1_S288x1024x1024_12_0_n_n_0_1_110241024 (ix3 t k j) ⟨List.idxOf (0 : Fin 3) (GatherDims.startIndexMap gather_S32x1024x1024_S288x1_S288x1024x1024_12_0_n_n_0_1_110241024),
        List.idxOf_lt_length_iff.2 (List.mem_singleton.mpr rfl)⟩ = ix2 t 0 := by
      funext b; refine Fin.ext ?_
      match b with
      | ⟨0, _⟩ => rfl
      | ⟨1, _⟩ => rfl
    have hl := e.isLt
    rw [hsi, he, WordCmp.toInt_ofNat_of_lt (by omega)]
    show min ((e.val : Int)).toNat (32 - 1) = e.val
    omega
  · show GatherDims.start gather_S32x1024x1024_S288x1_S288x1024x1024_12_0_n_n_0_1_110241024 (ix3 t k j) idx 1 + GatherDims.batchCoord gather_S32x1024x1024_S288x1_S288x1024x1024_12_0_n_n_0_1_110241024 (ix3 t k j) 1 + GatherDims.offCoord gather_S32x1024x1024_S288x1_S288x1024x1024_12_0_n_n_0_1_110241024 (ix3 t k j) 1 = k.val
    rw [GatherDims.batchCoord_eq_zero _ _ _ List.not_mem_nil]
    unfold GatherDims.start GatherDims.offCoord
    rw [dif_neg (show ¬ (1 : Fin 3) ∈ GatherDims.startIndexMap gather_S32x1024x1024_S288x1_S288x1024x1024_12_0_n_n_0_1_110241024 by decide), dif_pos (show (1 : Fin 3) ∈ GatherDims.sKept gather_S32x1024x1024_S288x1_S288x1024x1024_12_0_n_n_0_1_110241024 by decide)]
    simp only [Nat.zero_add, Nat.add_zero]
    rfl
  · show GatherDims.start gather_S32x1024x1024_S288x1_S288x1024x1024_12_0_n_n_0_1_110241024 (ix3 t k j) idx 2 + GatherDims.batchCoord gather_S32x1024x1024_S288x1_S288x1024x1024_12_0_n_n_0_1_110241024 (ix3 t k j) 2 + GatherDims.offCoord gather_S32x1024x1024_S288x1_S288x1024x1024_12_0_n_n_0_1_110241024 (ix3 t k j) 2 = j.val
    rw [GatherDims.batchCoord_eq_zero _ _ _ List.not_mem_nil]
    unfold GatherDims.start GatherDims.offCoord
    rw [dif_neg (show ¬ (2 : Fin 3) ∈ GatherDims.startIndexMap gather_S32x1024x1024_S288x1_S288x1024x1024_12_0_n_n_0_1_110241024 by decide), dif_pos (show (2 : Fin 3) ∈ GatherDims.sKept gather_S32x1024x1024_S288x1_S288x1024x1024_12_0_n_n_0_1_110241024 by decide)]
    simp only [Nat.zero_add, Nat.add_zero]
    rfl

theorem weight2_apply (be : IVec S288 32) (w2 : FVec Ideal S4x32x1024x1024 .f32) (t : Fin 288) (k : Fin 1024) (j : Fin 1024) (e : Fin 32) (he : (be (ix1 t)).toNat = e.val) :
    weight2 be w2 (ix3 t k j) = w2 (ix4 0 e k j) := by
  have hr : rows be (ix2 t 0) = BitVec.ofNat 32 e.val := by
    rw [rows_apply be t (by rw [he]; exact e.isLt), ← he, BitVec.ofNat_toNat, BitVec.setWidth_eq]
  unfold weight2
  refine (pick_weight2 _ _ t k j e hr).trans ?_
  pointwise

theorem pick_bias2 {α : Type} (x : S32x1024.Idx → α) (idx : IVec S288x1 32) (t : Fin 288) (j : Fin 1024) (e : Fin 32) (he : idx (ix2 t 0) = BitVec.ofNat 32 e.val) :
    Host.gather gather_S32x1024_S288x1_S288x1024_1_0_n_n_0_1_11024 x idx (ix2 t j) = x (ix2 e j) := by
  unfold Host.gather
  refine congrArg x (funext fun a => Fin.ext ?_)
  fin_cases a
  · show GatherDims.start gather_S32x1024_S288x1_S288x1024_1_0_n_n_0_1_11024 (ix2 t j) idx 0 + GatherDims.batchCoord gather_S32x1024_S288x1_S288x1024_1_0_n_n_0_1_11024 (ix2 t j) 0 + GatherDims.offCoord gather_S32x1024_S288x1_S288x1024_1_0_n_n_0_1_11024 (ix2 t j) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S32x1024_S288x1_S288x1024_1_0_n_n_0_1_11024 from List.mem_singleton.mpr rfl)]
    have hsi : GatherDims.siIdx gather_S32x1024_S288x1_S288x1024_1_0_n_n_0_1_11024 (ix2 t j) ⟨List.idxOf (0 : Fin 2) (GatherDims.startIndexMap gather_S32x1024_S288x1_S288x1024_1_0_n_n_0_1_11024),
        List.idxOf_lt_length_iff.2 (List.mem_singleton.mpr rfl)⟩ = ix2 t 0 := by
      funext b; refine Fin.ext ?_
      match b with
      | ⟨0, _⟩ => rfl
      | ⟨1, _⟩ => rfl
    have hl := e.isLt
    rw [hsi, he, WordCmp.toInt_ofNat_of_lt (by omega)]
    show min ((e.val : Int)).toNat (32 - 1) = e.val
    omega
  · show GatherDims.start gather_S32x1024_S288x1_S288x1024_1_0_n_n_0_1_11024 (ix2 t j) idx 1 + GatherDims.batchCoord gather_S32x1024_S288x1_S288x1024_1_0_n_n_0_1_11024 (ix2 t j) 1 + GatherDims.offCoord gather_S32x1024_S288x1_S288x1024_1_0_n_n_0_1_11024 (ix2 t j) 1 = j.val
    rw [GatherDims.batchCoord_eq_zero _ _ _ List.not_mem_nil]
    unfold GatherDims.start GatherDims.offCoord
    rw [dif_neg (show ¬ (1 : Fin 2) ∈ GatherDims.startIndexMap gather_S32x1024_S288x1_S288x1024_1_0_n_n_0_1_11024 by decide), dif_pos (show (1 : Fin 2) ∈ GatherDims.sKept gather_S32x1024_S288x1_S288x1024_1_0_n_n_0_1_11024 by decide)]
    simp only [Nat.zero_add, Nat.add_zero]
    rfl

theorem bias2_apply (be : IVec S288 32) (b2 : FVec Ideal S4x32x1024 .f32) (t : Fin 288) (j : Fin 1024) (e : Fin 32) (he : (be (ix1 t)).toNat = e.val) :
    bias2 be b2 (ix2 t j) = b2 (ix3 0 e j) := by
  have hr : rows be (ix2 t 0) = BitVec.ofNat 32 e.val := by
    rw [rows_apply be t (by rw [he]; exact e.isLt), ← he, BitVec.ofNat_toNat, BitVec.setWidth_eq]
  unfold bias2
  refine (pick_bias2 _ _ t j e hr).trans ?_
  pointwise

theorem unpacked_apply (x : IVec S147456x512 32) (t : Fin 288) (r : Fin 512) (k : Fin 1024) (i : Fin 147456) (hi : i.val = t.val * 512 + r.val) :
    unpacked x (ix3 t r k) = Cert.Experts.column (fun l => x (ix2 i l)) k := by
  have e : i = ⟨t.val * 512 + r.val, by omega⟩ := Fin.ext hi
  rw [e]
  pointwise [unpacked]
  rfl

theorem hidden_apply (x : FVec Ideal S288x512x1024 .f32) (w : FVec Ideal S288x1024x2048 .f32) (b : FVec Ideal S288x2048 .f32) (t : Fin 288) (r : Fin 512) (j : Fin 2048) :
    hidden x w b (ix3 t r j) = (∑ k : Fin 1024, x (ix3 t r k) * w (ix3 t k j)) + b (ix2 t j) := by
  pointwise [hidden]

theorem act_apply (h : FVec Ideal S288x512x2048 .f32) (t : Fin 288) (r : Fin 512) (f : Fin 1024) :
    act h (ix3 t r f) = Cert.Experts.gate (h (ix3 t r ⟨2 * f.val, by omega⟩)) (h (ix3 t r ⟨2 * f.val + 1, by omega⟩)) := by
  pointwise [act, id_eq]
  unfold Cert.Experts.gate
  rw [zero_sub]
  have e : (⟨1 + 2 * f.val, by omega⟩ : Fin 2048) = ⟨2 * f.val + 1, by omega⟩ := Fin.ext (Nat.add_comm _ _)
  rw [e]

theorem down_apply (a : FVec Ideal S288x512x1024 .f32) (w : FVec Ideal S288x1024x1024 .f32) (b : FVec Ideal S288x1024 .f32) (t : Fin 288) (r : Fin 512) (d : Fin 1024) :
    down a w b (ix3 t r d) = (∑ f : Fin 1024, a (ix3 t r f) * w (ix3 t f d)) + b (ix2 t d) := by
  pointwise [down]

theorem masked_apply (n : IVec S1 32) (y : FVec Ideal S288x512x1024 .f32) (t : Fin 288) (r : Fin 512) (d : Fin 1024) (i : Fin 147456) (hi : i.val = t.val * 512 + r.val) :
    masked n y (ix2 i d) = if (BitVec.ofNat 32 t.val).toInt < (n (ix1 0)).toInt then y (ix3 t r d) else 0 := by
  have e1 : i.val / 512 = t.val := by omega
  have e2 : i.val % 512 = r.val := by omega
  pointwise [masked, id_eq]
  unfold Scalar.select
  rw [show (⟨i.val / 512, by omega⟩ : Fin 288) = t from Fin.ext e1, show (⟨i.val % 512, by omega⟩ : Fin 512) = r from Fin.ext e2, e1, WordCmp.cmpi_slt_eq]
  by_cases hu : (BitVec.ofNat 32 t.val).toInt < (n (ix1 0)).toInt
  · rw [decide_eq_true hu, if_pos hu]; rfl
  · rw [decide_eq_false hu, if_neg hu]; rfl

/-- The reference's output is the experts' output. -/
theorem output_eq (be : IVec S288 32) (n : IVec S1 32) (x : IVec S147456x512 32) (w1 : FVec Ideal S4x32x1024x2048 .f32)
    (b1 : FVec Ideal S4x32x2048 .f32) (w2 : FVec Ideal S4x32x1024x1024 .f32) (b2 : FVec Ideal S4x32x1024 .f32)
    (h : ∀ t : Fin 288, (be (ix1 t)).toNat < 32) : output be n x w1 b1 w2 b2 = Cert.Experts.entry be n x w1 b1 w2 b2 h := by
  funext y
  obtain ⟨i, d, rfl⟩ : ∃ (i : Fin 147456) (d : Fin 1024), y = ix2 i d := ⟨y 0, y 1, (ix2_eta y).symm⟩
  have hi : i.val = (Cert.Experts.blockOf i).val * 512 + (⟨i.val % 512, by omega⟩ : Fin 512).val := by
    show i.val = i.val / 512 * 512 + i.val % 512
    omega
  have hh (t : Fin 288) (r : Fin 512) (ht : i.val = t.val * 512 + r.val) (j : Fin 2048) :
      hidden (unpacked x) (weight1 be w1) (bias1 be b1) (ix3 t r j) = Cert.Experts.hiddenAt x w1 b1 ⟨(be (ix1 t)).toNat, h t⟩ i j := by
    rw [hidden_apply]
    unfold Cert.Experts.hiddenAt
    refine congrArg₂ (· + ·) (Finset.sum_congr rfl fun k _ => ?_) (bias1_apply be b1 t j ⟨_, h t⟩ rfl)
    rw [weight1_apply be w1 t k j ⟨_, h t⟩ rfl, unpacked_apply x t r k i ht]
  unfold output
  rw [masked_apply n _ (Cert.Experts.blockOf i) ⟨i.val % 512, by omega⟩ d i hi]
  show _ = if (BitVec.ofNat 32 (Cert.Experts.blockOf i).val).toInt < (n (ix1 0)).toInt then
    Cert.Experts.rowAt x w1 b1 w2 b2 ⟨(be (ix1 (Cert.Experts.blockOf i))).toNat, h _⟩ i d else 0
  refine if_congr Iff.rfl ?_ rfl
  rw [down_apply]
  unfold Cert.Experts.rowAt
  refine congrArg₂ (· + ·) (Finset.sum_congr rfl fun f _ => ?_) (bias2_apply be b2 _ d ⟨_, h _⟩ rfl)
  rw [act_apply, hh _ _ hi, hh _ _ hi, weight2_apply be w2 _ f d ⟨_, h _⟩ rfl]

end Cert.Reference2Ideal.Experts

end
-- ==== Proof.Experts.lean ====
/- The claims of the experts: both programs run, the kernel's output array is the reference's. -/
module

public import proofs.«01_k».proof.Defs
public import proofs.«01_k».proof.Proof.ExpertOutput
public import proofs.«01_k».proof.Proof.ExpertReference
public import proofs.«01_k».proof.Proof.Gen.Kernel2
public import proofs.«01_k».proof.Proof.Gen.Pre_experts_in_range

@[expose] public section

noncomputable section

namespace Cert.Experts

open Idealize.ShloMosaic Idealize.ShloMosaic.TcCoe Idealize.SL.Sem

instance : Cert.Kernel2.Facts := Cert.Kernel2.Gen.facts
instance : Cert.Kernel2Ideal.Facts := Cert.Kernel2Ideal.Gen.facts
instance : Cert.Reference2Ideal.Facts := Cert.Reference2Ideal.Gen.facts
instance : Cert.Pre_experts_in_range.Facts := Cert.Pre_experts_in_range.Gen.facts

/-- The precondition bounds every expert's number. -/
theorem bound {F : FTy → Type} [FloatOps F] (be : IVec Cert.Kernel2Ideal.S288 32) (n : IVec Cert.Kernel2Ideal.S1 32) (x : IVec Cert.Kernel2Ideal.S147456x512 32)
    (w1 : FVec F Cert.Kernel2Ideal.S4x32x1024x2048 .f32) (b1 : FVec F Cert.Kernel2Ideal.S4x32x2048 .f32) (w2 : FVec F Cert.Kernel2Ideal.S4x32x1024x1024 .f32) (b2 : FVec F Cert.Kernel2Ideal.S4x32x1024 .f32)
    (h : Cert.Pre_experts_in_range.fn (F := F) be n x w1 b1 w2 b2 = fun _ => 1) (t : Fin 288) : (be (ix1 t)).toNat < 32 := by
  have e : IntOp.andi (IntOp.cmpi .sge (be (ix1 t)) 0#32) (IntOp.cmpi .slt (be (ix1 t)) (BitVec.ofNat 32 32)) = 1#1 := congrFun h (ix1 t)
  rw [WordCmp.andi_sge_zero_slt_ofNat (by decide)] at e
  exact of_decide_eq_true ((WordCmp.ofBool_eq_one_iff _).mp e)

theorem inRange_bits (m : (ℓ : Loc Cert.Kernel2Ideal.nD Cert.Kernel2Ideal.τ Cert.Kernel2Ideal.sig) → Buf (Elt Bits) ℓ) (h : Cert.Pre_Kernel2 m) : InRange m :=
  fun t => bound _ _ _ _ _ _ _ (h 0) t

theorem inRange_ideal (m : (ℓ : Loc Cert.Kernel2Ideal.nD Cert.Kernel2Ideal.τ Cert.Kernel2Ideal.sig) → Buf (Elt Ideal) ℓ) (h : Cert.Pre_Kernel2Ideal m) : InRange m :=
  fun t => bound _ _ _ _ _ _ _ (h 0) t

/-! The program and its idealization have one text. -/

section OneText
variable {F : FTy → Type} [FloatOps F]

set_option maxHeartbeats 1000000 in
theorem body_same (l : Fin 1) (a) : Cert.Kernel2.defs₀ (F := F) .tc l a = Cert.Kernel2Ideal.defs₀ (F := F) .tc l a := by
  obtain rfl : l = 0 := Subsingleton.elim _ _
  obtain ⟨t, s⟩ := a
  rfl

theorem bodies_same : Cert.Kernel2.defs₀ (F := F) = Cert.Kernel2Ideal.defs₀ (F := F) := by
  funext p l a
  cases p with
  | tc => exact body_same l a
  | scScalar _ => rfl
  | scVector _ _ => rfl

theorem defs_same : Cert.Kernel2.defs (F := F) = Cert.Kernel2Ideal.defs (F := F) :=
  congrArg (Pipeline.defs Cert.Kernel2Ideal.pcfgs) bodies_same

set_option maxHeartbeats 1000000 in
theorem main_same : Cert.Kernel2.main (F := F) = Cert.Kernel2Ideal.main (F := F) := rfl

end OneText

theorem frame_kernel : Cert.quiescent_Kernel2 := fun m ρ h => by
  have e := frame (F := Bits) m ρ (ok_of_inRange m (inRange_bits m h)) (follows m _ (inRange_bits m h))
  rw [← defs_same, ← main_same] at e
  exact e

theorem frame_ideal : Cert.quiescent_Kernel2Ideal := fun m ρ h =>
  have hr := inRange_ideal m h
  frame (F := Ideal) m ρ (ok_of_inRange m hr) (follows m _ hr)

theorem frame_reference : Cert.quiescent_Reference2Ideal := fun m ρ _ =>
  (θ_run Cert.Reference2Ideal.defs _ _).mono (fun r h =>
    ⟨fun c => (h c).2, sem_eq_zero_of_no_sems (by decide) r.2⟩) (Cert.Reference2Ideal.Value.run (F := Ideal) m ρ)

theorem frame_reference_in_range : Cert.quiescent_Reference2Ideal_pre_experts_in_range := fun m ρ _ =>
  frame_reference m ρ trivial

/-- No operation is rewritten. -/
theorem no_names : Cert.preserves_Kernel2_Kernel2Ideal := trivial

theorem same : Cert.algebraic_Kernel2Ideal_Reference2Ideal := by
  intro m ρ m' ρ' hpre hagree
  have hr := inRange_ideal m hpre
  have hO := ok_of_inRange m hr
  have hF := follows m hO hr
  refine ⟨fun c => final m hr c, ?_, ?_⟩
  · exact (θ_run Cert.Kernel2Ideal.defs _ _).mono (fun r h c => ⟨((h.1 c).1 5).trans (arr_eq m hO hr c), h.2.1 c⟩)
      (θ_run_and (run_main m ρ hO hF) (frame m ρ hO hF))
  · refine (θ_run Cert.Reference2Ideal.defs _ _).mono (fun r h c => ⟨(h c).1.trans ?_, (h c).2⟩) (Cert.Reference2Ideal.Value.run (F := Ideal) m' ρ')
    obtain rfl : c = 0 := Subsingleton.elim _ _
    obtain ⟨h0, h1, h2, h3, h4, h5, h6⟩ := hagree 0
    refine (Cert.Reference2Ideal.Experts.res_eq m' 0).trans ?_
    rw [h0, h1, h2, h3, h4, h5, h6]
    exact Cert.Reference2Ideal.Experts.output_eq _ _ _ _ _ _ _ hr

end Cert.Experts

end
-- ==== Proof.ModOutput.lean ====
/- The modulation of the layers by the condition: the stages of the reference, and the kernel's output array. -/
module

public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

namespace Cert.Reference6Ideal.Mod

open Cert.Reference6Ideal Cert.Reference6Ideal.Gen Idealize.ShloMosaic Idealize.ShloMosaic.TcCoe Idealize.SL.Sem

/-- A number times its logistic function. -/
def swish (a : EReal) : EReal := a * Ideal.div 1 (1 + Ideal.exp (-a))

/-- The modulation of every layer and sequence. -/
def result (C : FVec Ideal S8x1024 .f32) (W : FVec Ideal S4x1024x6144 .f32) (B : FVec Ideal S4x6144 .f32) : FVec Ideal S4x8x6144 .f32 :=
  addf (transpose S4x8x6144 [0, 2, 1] (Host.dotGeneral dot_S4x1024x6144_S8x1024_S4x6144x8_1_1_02_0_n_n none W (mulf C (Host.divf (broadcastInDim S8x1024 ![] bcast_S_S8x1024 (constant S_ .f32 0x3F800000#32)) (addf (broadcastInDim S8x1024 ![] bcast_S_S8x1024 (constant S_ .f32 0x3F800000#32)) (Host.exp (Host.negf C)))))) transposes_S4x6144x8_S4x8x6144_0_2_1)
    (broadcastInDim S4x8x6144 ![0, 1, 2] bcast_S4x1x6144_S4x8x6144_0_1_2 (broadcastInDim S4x1x6144 ![0, 2] bcast_S4x6144_S4x1x6144_0_2 B))

theorem result_apply (C : FVec Ideal S8x1024 .f32) (W : FVec Ideal S4x1024x6144 .f32) (B : FVec Ideal S4x6144 .f32) (l : Fin 4) (b : Fin 8) (j : Fin 6144) :
    result C W B (ix3 l b j) = ∑ k, swish (C (ix2 b k)) * W (ix3 l k j) + B (ix2 l j) := by
  pointwise [result]
  exact congrArg (· + _) (Finset.sum_congr rfl fun k _ => mul_comm _ _)

end Cert.Reference6Ideal.Mod

namespace Cert.Kernel6Ideal.Mod

open Cert.Kernel6Ideal Cert.Kernel6Ideal.Gen Idealize.ShloMosaic Idealize.ShloMosaic.TcCoe Idealize.SL.Sem

theorem pay_apply (x : FVec Ideal S8x1024 .f32) (w : FVec Ideal S1x1024x1536 .f32) (b : FVec Ideal S1x1x1536 .f32) (r : Fin 8) (j : Fin 1536) :
    k0_pay1 (F := Ideal) x w b (ix3 0 r j) = ∑ k, Reference6Ideal.Mod.swish (x (ix2 r k)) * w (ix3 0 k j) + b (ix3 0 0 j) := by
  pointwise [k0_pay1]
  simp only [Reference6Ideal.Mod.swish, zero_sub]

variable (m : (ℓ : Loc nD τ sig) → Buf (Elt Ideal) ℓ)

/-- Where each window's block lies at a point. -/
theorem idx : ∀ t : Fin cfg0.N, win0_0.index t = ![0, 0] ∧ win0_1.index t = ![t.val / 4, 0, t.val % 4] ∧ win0_2.index t = ![t.val / 4, 0, t.val % 4] ∧ win0_3.index t = ![t.val / 4, 0, t.val % 4] :=
  (by decide +kernel : ∀ t : Fin grid0.N, _)

/-- The condition of each sequence. -/
abbrev cond (c : Dev nD) : FVec Ideal S8x1024 .f32 := m ((c.tc : Thread nD τ).loc main_arg0)
/-- The weight of each layer. -/
abbrev weight (c : Dev nD) : FVec Ideal S4x1024x6144 .f32 := m ((c.tc : Thread nD τ).loc main_arg1)
/-- The bias of each layer. -/
abbrev bias (c : Dev nD) : FVec Ideal S4x6144 .f32 := m ((c.tc : Thread nD τ).loc main_arg2)

theorem bias_entry (c : Dev nD) : V m c main_v0 = shapeCast _ (bias m c) shapeCasts_S4x6144_S4x1x6144 := by
  unfold V
  simp only [hostOps0]
  after_results_simp
  rfl

theorem cond_apply (c : Dev nD) (t : Fin cfg0.N) (r : Fin 8) (k : Fin 1024) : iblk m c 0 t (ix2 r k) = cond m c (ix2 r k) := by
  have h : iblk m c 0 t (ix2 r k) = V m c main_arg0 (ix2 r k) := by blk_ext [iblk, idx t]
  rw [h, V_main_arg0]

theorem weight_apply (c : Dev nD) (t : Fin cfg0.N) (ht : t.val < 16) (k : Fin 1024) (j : Fin 1536) :
    iblk m c 1 t (ix3 0 k j) = weight m c (ix3 ⟨t.val / 4, by omega⟩ k ⟨t.val % 4 * 1536 + j.val, by omega⟩) := by
  have h : iblk m c 1 t (ix3 0 k j) = V m c main_arg1 (ix3 ⟨t.val / 4, by omega⟩ k ⟨t.val % 4 * 1536 + j.val, by omega⟩) := by blk_ext [iblk, idx t]
  rw [h, V_main_arg1]

theorem bias_apply (c : Dev nD) (t : Fin cfg0.N) (ht : t.val < 16) (j : Fin 1536) :
    iblk m c 2 t (ix3 0 0 j) = bias m c (ix2 ⟨t.val / 4, by omega⟩ ⟨t.val % 4 * 1536 + j.val, by omega⟩) := by
  have h : iblk m c 2 t (ix3 0 0 j) = V m c main_v0 (ix3 ⟨t.val / 4, by omega⟩ 0 ⟨t.val % 4 * 1536 + j.val, by omega⟩) := by blk_ext [iblk, idx t]
  rw [h, bias_entry]
  pointwise

/-- Where a point's block lies in the output array. -/
theorem place (t : Fin cfg0.N) (y : S1x8x1536.Idx) :
    ((((View.whole main_v1).slice (win0_3.rect t)).emb y) 0).val = t.val / 4 + (y 0).val ∧ ((((View.whole main_v1).slice (win0_3.rect t)).emb y) 1).val = (y 1).val
      ∧ ((((View.whole main_v1).slice (win0_3.rect t)).emb y) 2).val = t.val % 4 * 1536 + (y 2).val := by
  refine ⟨?_, ?_, ?_⟩ <;> blk_simp [idx t]

/-- The kernel's result, as the reference's of the arguments. -/
abbrev final (c : Dev nD) : FVec Ideal S4x8x6144 .f32 := Reference6Ideal.Mod.result (cond m c) (weight m c) (bias m c)

theorem final_at (c : Dev nD) (t : Fin cfg0.N) (ht : t.val < 16) (r : Fin 8) (j : Fin 1536) (i : S4x8x6144.Idx) (h0 : (i 0).val = t.val / 4) (h1 : (i 1).val = r.val) (h2 : (i 2).val = t.val % 4 * 1536 + j.val) :
    k0_pay1 (F := Ideal) (iblk m c 0 t) (iblk m c 1 t) (iblk m c 2 t) (ix3 0 r j) = final m c i := by
  obtain ⟨l, b, k, rfl⟩ : ∃ (l : Fin 4) (b : Fin 8) (k : Fin 6144), i = ix3 l b k := ⟨i 0, i 1, i 2, (ix3_eta i).symm⟩
  rw [show l = ⟨t.val / 4, by omega⟩ from Fin.ext h0, show b = r from Fin.ext h1, show k = ⟨t.val % 4 * 1536 + j.val, by omega⟩ from Fin.ext h2]
  unfold final
  rw [Reference6Ideal.Mod.result_apply, pay_apply]
  simp only [cond_apply m c t, weight_apply m c t ht, bias_apply m c t ht]

/-- The output array after the kernel's run. -/
theorem final_eq (c : Dev nD) : (dats m 0 c).arrAt 3 cfg0.N = final m c := by
  refine (dats m 0 c).arrAt_eq_of_covers 3 _ (by decide +kernel) fun t _ y => ?_
  have ht : t.val < 16 := t.isLt
  obtain ⟨p0, p1, p2⟩ := place t y
  have key := final_at m c t ht
  blk_simp
  rw [after0_3]; unfold out0_3; frame_out
  obtain ⟨o, r, j, rfl⟩ : ∃ (o : Fin 1) (r : Fin 8) (j : Fin 1536), y = ix3 o r j := ⟨y 0, y 1, y 2, (ix3_eta y).symm⟩
  obtain rfl : o = 0 := Subsingleton.elim _ _
  exact key r j _ p0 p1 p2

end Cert.Kernel6Ideal.Mod

end
-- ==== Proof.Mod.lean ====
/- The claims of the modulation: frames, and the equality of kernel and reference on the extended reals. -/
module

public import proofs.«01_k».proof.Defs
public import proofs.«01_k».proof.Proof.Gen.Kernel6.Frame
public import proofs.«01_k».proof.Proof.ModOutput

@[expose] public section

set_option maxRecDepth 16384

noncomputable section

namespace Cert.Mod

open Idealize.ShloMosaic Idealize.SL.Sem

instance : Cert.Kernel6.Facts := Cert.Kernel6.Gen.facts
instance : Cert.Kernel6Ideal.Facts := Cert.Kernel6Ideal.Gen.facts
instance : Cert.Reference6Ideal.Facts := Cert.Reference6Ideal.Gen.facts

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h =>
    ⟨fun c => (h c).2, sem_eq_zero_of_no_sems (by decide) r.2⟩) (Cert.Reference6Ideal.Value.run (F := Ideal) m ρ)

/-- No operation is rewritten. -/
theorem no_names : Cert.preserves_Kernel6_Kernel6Ideal := trivial

theorem same : Cert.algebraic_Kernel6Ideal_Reference6Ideal := by
  intro m ρ m' ρ' _ hagree
  refine ⟨fun c => Cert.Kernel6Ideal.Mod.final m c, ?_, ?_⟩
  · exact (θ_run Cert.Kernel6Ideal.defs _ _).mono (fun r h c => ⟨(h c).1.trans (Cert.Kernel6Ideal.Mod.final_eq m c), (h c).2⟩) (Cert.Kernel6Ideal.Value.run_blocks m ρ)
  · refine (θ_run Cert.Reference6Ideal.defs _ _).mono (fun r h c => ⟨(h c).1.trans ?_, (h c).2⟩) (Cert.Reference6Ideal.Value.run (F := Ideal) m' ρ')
    rw [(hagree c).1, (hagree c).2.1, (hagree c).2.2]
    rfl

end Cert.Mod

end
-- ==== Proof.NormRow.lean ====
/- A row divided by the root of its mean square, as the projections' kernels and references compute it. -/
module

public import Idealize.ShloMosaic.Lib.Pipeline.ValueKit

@[expose] public section

noncomputable section

namespace Cert.NormRow

open Idealize.ShloMosaic

/-- The row over the root of its mean square plus a millionth, times the gain. -/
def unit (x g : Fin 1024 → EReal) (l : Fin 1024) : EReal :=
  x l * Ideal.rsqrt (Ideal.div (∑ k, x k * x k) (Ideal.ofBits FTy.f32 0x44800000#32) + Ideal.ofBits FTy.f32 0x358637BD#32) * g l

/-- The same, scaled and shifted. -/
def shifted (x g s h : Fin 1024 → EReal) (l : Fin 1024) : EReal := unit x g l * (1 + s l) + h l

end Cert.NormRow

end
-- ==== Proof.MixReference.lean ====
/- The reference of the projection after the attention: the stages of its run and what they hold. -/
module

public import proofs.«01_k».proof.Proof.Gen.Reference5Ideal.Run
public import proofs.«01_k».proof.Proof.NormRow
public import Idealize.ShloMosaic.Lib.Pipeline.ValueKit

@[expose] public section

set_option maxRecDepth 16384

noncomputable section

namespace Cert.Reference5Ideal.Mix

open Cert.Reference5Ideal Cert.Reference5Ideal.Gen Idealize.ShloMosaic Idealize.ShloMosaic.TcCoe Idealize.SL.Sem

variable (Y : FVec Ideal S32768x1024 .f32) (X : FVec Ideal S8x4096x1024 .f32) (W : FVec Ideal S1024x1024 .f32) (G : FVec Ideal S1024 .f32) (T : FVec Ideal S8x1024 .f32)

/-- The projected rows. -/
def proj : FVec Ideal S8x4096x1024 .f32 :=
  Host.dotGeneral dot_S8x4096x1024_S1024x1024_S8x4096x1024_2_0_01_1_n_n none (shapeCast _ Y shapeCasts_S32768x1024_S8x4096x1024) W

/-- The residual rows plus the gated rows `Z` over the root of their mean square. -/
def added (Z : FVec Ideal S8x4096x1024 .f32) : FVec Ideal S32768x1024 .f32 :=
  shapeCast _ (addf X (mulf (broadcastInDim S8x4096x1024 ![0, 1, 2] bcast_S8x1x1024_S8x4096x1024_0_1_2 (broadcastInDim S8x1x1024 ![0, 2] bcast_S8x1024_S8x1x1024_0_2 T))
    (mulf (mulf Z (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf Z Z) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
      (broadcastInDim S8x4096x1024 ![0, 1, 2] bcast_S1x1x1024_S8x4096x1024_0_1_2 (broadcastInDim S1x1x1024 ![2] bcast_S1024_S1x1x1024_2 G))))) shapeCasts_S8x4096x1024_S32768x1024

/-- The entries of the result, by row and column. -/
def entry (r : Fin 32768) (j : Fin 1024) : EReal :=
  X (ix3 ⟨r.val / 4096, by omega⟩ ⟨r.val % 4096, by omega⟩ j)
    + T (ix2 ⟨r.val / 4096, by omega⟩ j) * NormRow.unit (fun l => ∑ k, Y (ix2 r k) * W (ix2 k l)) (fun l => G (ix1 l)) j

theorem proj_apply (r : Fin 32768) (l : Fin 1024) : proj Y W (ix3 ⟨r.val / 4096, by omega⟩ ⟨r.val % 4096, by omega⟩ l) = ∑ k, Y (ix2 r k) * W (ix2 k l) := by
  pointwise [proj]

theorem added_apply (Z : FVec Ideal S8x4096x1024 .f32) (r : Fin 32768) (j : Fin 1024) :
    added X G T Z (ix2 r j) = X (ix3 ⟨r.val / 4096, by omega⟩ ⟨r.val % 4096, by omega⟩ j)
      + T (ix2 ⟨r.val / 4096, by omega⟩ j) * NormRow.unit (fun l => Z (ix3 ⟨r.val / 4096, by omega⟩ ⟨r.val % 4096, by omega⟩ l)) (fun l => G (ix1 l)) j := by
  pointwise [added]
  rfl

theorem result_apply (r : Fin 32768) (j : Fin 1024) : added X G T (proj Y W) (ix2 r j) = entry Y X W G T r j := by
  rw [added_apply]
  simp only [proj_apply]
  rfl

end Cert.Reference5Ideal.Mix

end
-- ==== Proof.MixOutput.lean ====
/- The kernel of the projection after the attention: what its windows hold at a grid point, and its output array. -/
module

public import proofs.«01_k».proof.Proof.Gen.Kernel5Ideal.Value
public import proofs.«01_k».proof.Proof.MixReference

@[expose] public section

set_option maxRecDepth 16384

noncomputable section

namespace Cert.Kernel5Ideal.Mix

open Cert.Kernel5Ideal Cert.Kernel5Ideal.Gen Idealize.ShloMosaic Idealize.ShloMosaic.TcCoe Idealize.SL.Sem

theorem pay_apply (y : FVec Ideal S512x1024 .f32) (w : FVec Ideal S1024x1024 .bf16) (x : FVec Ideal S512x1024 .f32) (t : FVec Ideal S1x1x1024 .f32) (g : FVec Ideal S1x1024 .f32) (r : Fin 512) (j : Fin 1024) :
    k0_pay1 (F := Ideal) y w x t g (ix2 r j) = x (ix2 r j) + t (ix3 0 0 j) * NormRow.unit (fun l => ∑ k, y (ix2 r k) * w (ix2 k l)) (fun l => g (ix2 0 l)) j := by
  pointwise [k0_pay1]
  rfl

variable (m : (ℓ : Loc nD τ sig) → Buf (Elt Ideal) ℓ)

/-- Where each window's block lies at a point. -/
theorem idx : ∀ t : Fin cfg0.N, win0_0.index t = ![t.val, 0] ∧ win0_1.index t = ![t.val, 0] ∧ win0_2.index t = ![0, 0] ∧ win0_3.index t = ![0, 0]
    ∧ win0_4.index t = ![t.val / 8, 0, 0] ∧ win0_5.index t = ![t.val, 0] :=
  (by decide +kernel : ∀ t : Fin grid0.N, _)

/-- The attention's rows. -/
abbrev attended (c : Dev nD) : FVec Ideal S32768x1024 .f32 := m ((c.tc : Thread nD τ).loc main_arg0)
/-- The activations. -/
abbrev acts (c : Dev nD) : FVec Ideal S8x4096x1024 .f32 := m ((c.tc : Thread nD τ).loc main_arg1)
/-- The weight. -/
abbrev weight (c : Dev nD) : FVec Ideal S1024x1024 .f32 := m ((c.tc : Thread nD τ).loc main_arg2)
/-- The gain. -/
abbrev gain (c : Dev nD) : FVec Ideal S1024 .f32 := m ((c.tc : Thread nD τ).loc main_arg3)
/-- The gate of each sequence. -/
abbrev gate (c : Dev nD) : FVec Ideal S8x1024 .f32 := m ((c.tc : Thread nD τ).loc main_arg4)

theorem acts_entry (c : Dev nD) : V m c main_v0 = shapeCast _ (acts m c) shapeCasts_S8x4096x1024_S32768x1024 := by
  unfold V
  simp only [hostOps0]
  after_results_simp
  rfl

theorem gate_entry (c : Dev nD) : V m c main_v1 = shapeCast _ (gate m c) shapeCasts_S8x1024_S8x1x1024 := by
  unfold V
  simp only [hostOps0]
  after_results_simp
  rfl

theorem weight_entry (c : Dev nD) : V m c main_v2 = truncf (F := Ideal) .bf16 (weight m c) bitsLt_bf16_f32 := by
  unfold V
  simp only [hostOps0]
  after_results_simp

theorem gain_entry (c : Dev nD) : V m c main_v3 = shapeCast _ (gain m c) shapeCasts_S1024_S1x1024 := by
  unfold V
  simp only [hostOps0]
  after_results_simp
  rfl

theorem attended_apply (c : Dev nD) (t : Fin cfg0.N) (ht : t.val < 64) (r : Fin 512) (k : Fin 1024) : iblk m c 0 t (ix2 r k) = attended m c (ix2 ⟨t.val * 512 + r.val, by omega⟩ k) := by
  have h : iblk m c 0 t (ix2 r k) = V m c main_arg0 (ix2 ⟨t.val * 512 + r.val, by omega⟩ k) := by blk_ext [iblk, idx t]
  rw [h, V_main_arg0]

theorem acts_apply (c : Dev nD) (t : Fin cfg0.N) (ht : t.val < 64) (r : Fin 512) (k : Fin 1024) :
    iblk m c 1 t (ix2 r k) = acts m c (ix3 ⟨(t.val * 512 + r.val) / 4096, by omega⟩ ⟨(t.val * 512 + r.val) % 4096, by omega⟩ k) := by
  have h : iblk m c 1 t (ix2 r k) = V m c main_v0 (ix2 ⟨t.val * 512 + r.val, by omega⟩ k) := by blk_ext [iblk, idx t]
  rw [h, acts_entry]
  pointwise

theorem weight_apply (c : Dev nD) (t : Fin cfg0.N) (k j : Fin 1024) : iblk m c 2 t (ix2 k j) = weight m c (ix2 k j) := by
  have h : iblk m c 2 t (ix2 k j) = V m c main_v2 (ix2 k j) := by blk_ext [iblk, idx t]
  rw [h, weight_entry]
  pointwise

theorem gain_apply (c : Dev nD) (t : Fin cfg0.N) (k : Fin 1024) : iblk m c 3 t (ix2 0 k) = gain m c (ix1 k) := by
  have h : iblk m c 3 t (ix2 0 k) = V m c main_v3 (ix2 0 k) := by blk_ext [iblk, idx t]
  rw [h, gain_entry]
  pointwise

theorem gate_apply (c : Dev nD) (t : Fin cfg0.N) (ht : t.val < 64) (r : Fin 512) (k : Fin 1024) :
    iblk m c 4 t (ix3 0 0 k) = gate m c (ix2 ⟨(t.val * 512 + r.val) / 4096, by omega⟩ k) := by
  have h : iblk m c 4 t (ix3 0 0 k) = V m c main_v1 (ix3 ⟨t.val / 8, by omega⟩ 0 k) := by blk_ext [iblk, idx t]
  rw [h, gate_entry, show (⟨(t.val * 512 + r.val) / 4096, by omega⟩ : Fin 8) = ⟨t.val / 8, by omega⟩ from Fin.ext (by simp only; omega)]
  pointwise

/-- Where a point's block lies in the output array. -/
theorem place (t : Fin cfg0.N) (y : S512x1024.Idx) :
    ((((View.whole main_v4).slice (win0_5.rect t)).emb y) 0).val = t.val * 512 + (y 0).val ∧ ((((View.whole main_v4).slice (win0_5.rect t)).emb y) 1).val = (y 1).val := by
  constructor <;> blk_simp [idx t]

/-- The kernel's result, as the reference's stages of the arguments. -/
abbrev final (c : Dev nD) : FVec Ideal S32768x1024 .f32 := Reference5Ideal.Mix.added (acts m c) (gain m c) (gate m c) (Reference5Ideal.Mix.proj (attended m c) (weight m c))

theorem final_at (c : Dev nD) (t : Fin cfg0.N) (ht : t.val < 64) (r : Fin 512) (j : Fin 1024) (i : S32768x1024.Idx) (h0 : (i 0).val = t.val * 512 + r.val) (h1 : (i 1).val = j.val) :
    k0_pay1 (F := Ideal) (iblk m c 0 t) (iblk m c 2 t) (iblk m c 1 t) (iblk m c 4 t) (iblk m c 3 t) (ix2 r j) = final m c i := by
  rw [show i = ix2 ⟨t.val * 512 + r.val, by omega⟩ j from (ix2_eta i).symm.trans (congrArg₂ ix2 (Fin.ext h0) (Fin.ext h1))]
  unfold final
  rw [Reference5Ideal.Mix.result_apply, pay_apply]
  unfold Reference5Ideal.Mix.entry
  simp only [attended_apply m c t ht, acts_apply m c t ht, weight_apply m c t, gain_apply m c t, gate_apply m c t ht r]

/-- The output array after the kernel's run. -/
theorem final_eq (c : Dev nD) : (dats m 0 c).arrAt 5 cfg0.N = final m c := by
  refine (dats m 0 c).arrAt_eq_of_covers 5 _ (by decide +kernel) fun t _ y => ?_
  have ht : t.val < 64 := t.isLt
  obtain ⟨p0, p1⟩ := place t y
  have key := final_at m c t ht
  blk_simp
  rw [after0_5]; unfold out0_5; frame_out
  obtain ⟨r, j, rfl⟩ : ∃ (r : Fin 512) (j : Fin 1024), y = ix2 r j := ⟨y 0, y 1, (ix2_eta y).symm⟩
  exact key r j _ p0 p1

end Cert.Kernel5Ideal.Mix

end
-- ==== Proof.Mix.lean ====
/- The claims of the projection after the attention: frames, and the equality of kernel and reference on the extended reals. -/
module

public import proofs.«01_k».proof.Defs
public import proofs.«01_k».proof.Proof.Gen.Kernel5.Frame
public import proofs.«01_k».proof.Proof.MixOutput

@[expose] public section

set_option maxRecDepth 16384

noncomputable section

namespace Cert.Mix

open Idealize.ShloMosaic Idealize.SL.Sem

instance : Cert.Kernel5.Facts := Cert.Kernel5.Gen.facts
instance : Cert.Kernel5Ideal.Facts := Cert.Kernel5Ideal.Gen.facts
instance : Cert.Reference5Ideal.Facts := Cert.Reference5Ideal.Gen.facts

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h =>
    ⟨fun c => (h c).2, sem_eq_zero_of_no_sems (by decide) r.2⟩) (Cert.Reference5Ideal.Value.run (F := Ideal) m ρ)

/-- No operation is rewritten. -/
theorem no_names : Cert.preserves_Kernel5_Kernel5Ideal := trivial

theorem same : Cert.algebraic_Kernel5Ideal_Reference5Ideal := by
  intro m ρ m' ρ' _ hagree
  refine ⟨fun c => Cert.Kernel5Ideal.Mix.final m c, ?_, ?_⟩
  · exact (θ_run Cert.Kernel5Ideal.defs _ _).mono (fun r h c => ⟨(h c).1.trans (Cert.Kernel5Ideal.Mix.final_eq m c), (h c).2⟩) (Cert.Kernel5Ideal.Value.run_blocks m ρ)
  · refine (θ_run Cert.Reference5Ideal.defs _ _).mono (fun r h c => ⟨(h c).1.trans ?_, (h c).2⟩) (Cert.Reference5Ideal.Value.run (F := Ideal) m' ρ')
    rw [(hagree c).1, (hagree c).2.1, (hagree c).2.2.1, (hagree c).2.2.2.1, (hagree c).2.2.2.2]
    rfl

end Cert.Mix

end
-- ==== Proof.QkvReference.lean ====
/- The reference of the projection to queries, keys and values: the stages of its run and what they hold. -/
module

public import proofs.«01_k».proof.Proof.Gen.Reference4Ideal.Run
public import proofs.«01_k».proof.Proof.NormRow
public import Idealize.ShloMosaic.Lib.Pipeline.ValueKit

@[expose] public section

set_option maxRecDepth 16384

noncomputable section

namespace Cert.Reference4Ideal.Qkv

open Cert.Reference4Ideal Cert.Reference4Ideal.Gen Idealize.ShloMosaic Idealize.ShloMosaic.TcCoe Idealize.SL.Sem

variable (X : FVec Ideal S8x4096x1024 .f32) (G : FVec Ideal S1024 .f32) (C H : FVec Ideal S8x1024 .f32) (W : FVec Ideal S1024x1280 .f32)

/-- The rows as the projection sees them. -/
def rows : FVec Ideal S8x4096x1024 .f32 :=
  addf (mulf (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
      (broadcastInDim S8x4096x1024 ![0, 1, 2] bcast_S1x1x1024_S8x4096x1024_0_1_2 (broadcastInDim S1x1x1024 ![2] bcast_S1024_S1x1x1024_2 G)))
      (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 C))))
    (broadcastInDim S8x4096x1024 ![0, 1, 2] bcast_S8x1x1024_S8x4096x1024_0_1_2 (broadcastInDim S8x1x1024 ![0, 2] bcast_S8x1024_S8x1x1024_0_2 H))

theorem rows_apply (b : Fin 8) (r : Fin 4096) (l : Fin 1024) :
    rows X G C H (ix3 b r l) = NormRow.shifted (fun k => X (ix3 b r k)) (fun k => G (ix1 k)) (fun k => C (ix2 b k)) (fun k => H (ix2 b k)) l := by
  pointwise [rows]
  rfl

/-- The projected rows. -/
def proj : FVec Ideal S8x4096x1280 .f32 :=
  Host.dotGeneral dot_S8x4096x1024_S1024x1280_S8x4096x1280_2_0_01_1_n_n none (rows X G C H) W

/-- The projected rows, one sequence after the other. -/
def flat : FVec Ideal S32768x1280 .f32 := shapeCast _ (proj X G C H W) shapeCasts_S8x4096x1280_S32768x1280

/-- The entries of a row of the product, by its sequence and its place there. -/
def entry (r : Fin 32768) (j : Fin 1280) : EReal :=
  ∑ k, NormRow.shifted (fun k => X (ix3 ⟨r.val / 4096, by omega⟩ ⟨r.val % 4096, by omega⟩ k)) (fun k => G (ix1 k)) (fun k => C (ix2 ⟨r.val / 4096, by omega⟩ k))
    (fun k => H (ix2 ⟨r.val / 4096, by omega⟩ k)) k * W (ix2 k j)

theorem flat_apply (r : Fin 32768) (j : Fin 1280) : flat X G C H W (ix2 r j) = entry X G C H W r j := by
  pointwise [flat, proj]
  simp only [rows_apply]
  rfl

end Cert.Reference4Ideal.Qkv

end
-- ==== Proof.QkvOutput.lean ====
/- The kernel of the projection to queries, keys and values: what its windows hold at a grid point, and its output array. -/
module

public import proofs.«01_k».proof.Proof.Gen.Kernel4Ideal.Value
public import proofs.«01_k».proof.Proof.QkvReference

@[expose] public section

set_option maxRecDepth 16384

noncomputable section

namespace Cert.Kernel4Ideal.Qkv

open Cert.Kernel4Ideal Cert.Kernel4Ideal.Gen Idealize.ShloMosaic Idealize.ShloMosaic.TcCoe Idealize.SL.Sem

theorem pay_apply (x : FVec Ideal S512x1024 .f32) (g : FVec Ideal S1x1024 .f32) (s h : FVec Ideal S1x1x1024 .f32) (w : FVec Ideal S1024x1280 .bf16) (r : Fin 512) (j : Fin 1280) :
    k0_pay1 (F := Ideal) x g s h w (ix2 r j) = ∑ k, NormRow.shifted (fun k => x (ix2 r k)) (fun k => g (ix2 0 k)) (fun k => s (ix3 0 0 k)) (fun k => h (ix3 0 0 k)) k * w (ix2 k j) := by
  pointwise [k0_pay1]
  rfl

variable (m : (ℓ : Loc nD τ sig) → Buf (Elt Ideal) ℓ)

/-- Where each window's block lies at a point. -/
theorem idx : ∀ t : Fin cfg0.N, win0_0.index t = ![t.val, 0] ∧ win0_1.index t = ![0, 0] ∧ win0_2.index t = ![t.val / 8, 0, 0] ∧ win0_3.index t = ![t.val / 8, 0, 0]
    ∧ win0_4.index t = ![0, 0] ∧ win0_5.index t = ![t.val, 0] :=
  (by decide +kernel : ∀ t : Fin grid0.N, _)

/-- The activations. -/
abbrev acts (c : Dev nD) : FVec Ideal S8x4096x1024 .f32 := m ((c.tc : Thread nD τ).loc main_arg0)
/-- The gain. -/
abbrev gain (c : Dev nD) : FVec Ideal S1024 .f32 := m ((c.tc : Thread nD τ).loc main_arg1)
/-- The scale of each sequence. -/
abbrev scale (c : Dev nD) : FVec Ideal S8x1024 .f32 := m ((c.tc : Thread nD τ).loc main_arg2)
/-- The shift of each sequence. -/
abbrev shift (c : Dev nD) : FVec Ideal S8x1024 .f32 := m ((c.tc : Thread nD τ).loc main_arg3)
/-- The weight. -/
abbrev weight (c : Dev nD) : FVec Ideal S1024x1280 .f32 := m ((c.tc : Thread nD τ).loc main_arg4)

theorem acts_entry (c : Dev nD) : V m c main_v0 = shapeCast _ (acts m c) shapeCasts_S8x4096x1024_S32768x1024 := by
  unfold V
  simp only [hostOps0]
  after_results_simp
  rfl

theorem gain_entry (c : Dev nD) : V m c main_v4 = shapeCast _ (gain m c) shapeCasts_S1024_S1x1024 := by
  unfold V
  simp only [hostOps0]
  after_results_simp
  rfl

theorem scale_entry (c : Dev nD) : V m c main_v1 = shapeCast _ (scale m c) shapeCasts_S8x1024_S8x1x1024 := by
  unfold V
  simp only [hostOps0]
  after_results_simp
  rfl

theorem shift_entry (c : Dev nD) : V m c main_v2 = shapeCast _ (shift m c) shapeCasts_S8x1024_S8x1x1024 := by
  unfold V
  simp only [hostOps0]
  after_results_simp
  rfl

theorem weight_entry (c : Dev nD) : V m c main_v3 = truncf (F := Ideal) .bf16 (weight m c) bitsLt_bf16_f32 := by
  unfold V
  simp only [hostOps0]
  after_results_simp

theorem acts_apply (c : Dev nD) (t : Fin cfg0.N) (ht : t.val < 64) (r : Fin 512) (k : Fin 1024) :
    iblk m c 0 t (ix2 r k) = acts m c (ix3 ⟨(t.val * 512 + r.val) / 4096, by omega⟩ ⟨(t.val * 512 + r.val) % 4096, by omega⟩ k) := by
  have h : iblk m c 0 t (ix2 r k) = V m c main_v0 (ix2 ⟨t.val * 512 + r.val, by omega⟩ k) := by blk_ext [iblk, idx t]
  rw [h, acts_entry]
  pointwise

theorem gain_apply (c : Dev nD) (t : Fin cfg0.N) (k : Fin 1024) : iblk m c 1 t (ix2 0 k) = gain m c (ix1 k) := by
  have h : iblk m c 1 t (ix2 0 k) = V m c main_v4 (ix2 0 k) := by blk_ext [iblk, idx t]
  rw [h, gain_entry]
  pointwise

theorem scale_apply (c : Dev nD) (t : Fin cfg0.N) (ht : t.val < 64) (r : Fin 512) (k : Fin 1024) :
    iblk m c 2 t (ix3 0 0 k) = scale m c (ix2 ⟨(t.val * 512 + r.val) / 4096, by omega⟩ k) := by
  have h : iblk m c 2 t (ix3 0 0 k) = V m c main_v1 (ix3 ⟨t.val / 8, by omega⟩ 0 k) := by blk_ext [iblk, idx t]
  rw [h, scale_entry, show (⟨(t.val * 512 + r.val) / 4096, by omega⟩ : Fin 8) = ⟨t.val / 8, by omega⟩ from Fin.ext (by simp only; omega)]
  pointwise

theorem shift_apply (c : Dev nD) (t : Fin cfg0.N) (ht : t.val < 64) (r : Fin 512) (k : Fin 1024) :
    iblk m c 3 t (ix3 0 0 k) = shift m c (ix2 ⟨(t.val * 512 + r.val) / 4096, by omega⟩ k) := by
  have h : iblk m c 3 t (ix3 0 0 k) = V m c main_v2 (ix3 ⟨t.val / 8, by omega⟩ 0 k) := by blk_ext [iblk, idx t]
  rw [h, shift_entry, show (⟨(t.val * 512 + r.val) / 4096, by omega⟩ : Fin 8) = ⟨t.val / 8, by omega⟩ from Fin.ext (by simp only; omega)]
  pointwise

theorem weight_apply (c : Dev nD) (t : Fin cfg0.N) (k : Fin 1024) (j : Fin 1280) : iblk m c 4 t (ix2 k j) = weight m c (ix2 k j) := by
  have h : iblk m c 4 t (ix2 k j) = V m c main_v3 (ix2 k j) := by blk_ext [iblk, idx t]
  rw [h, weight_entry]
  pointwise

/-- A row of a point's product is the reference's. -/
theorem product (c : Dev nD) (t : Fin cfg0.N) (ht : t.val < 64) (r : Fin 512) (j : Fin 1280) :
    k0_pay1 (F := Ideal) (iblk m c 0 t) (iblk m c 1 t) (iblk m c 2 t) (iblk m c 3 t) (iblk m c 4 t) (ix2 r j)
      = Reference4Ideal.Qkv.entry (acts m c) (gain m c) (scale m c) (shift m c) (weight m c) ⟨t.val * 512 + r.val, by omega⟩ j := by
  rw [pay_apply]
  unfold Reference4Ideal.Qkv.entry
  simp only [acts_apply m c t ht, gain_apply m c t, scale_apply m c t ht r, shift_apply m c t ht r, weight_apply m c t]

/-- Where a point's block lies in the output array. -/
theorem place (t : Fin cfg0.N) (y : S512x1280.Idx) :
    ((((View.whole main_v5).slice (win0_5.rect t)).emb y) 0).val = t.val * 512 + (y 0).val ∧ ((((View.whole main_v5).slice (win0_5.rect t)).emb y) 1).val = (y 1).val := by
  constructor <;> blk_simp [idx t]

theorem flat_at (c : Dev nD) (t : Fin cfg0.N) (ht : t.val < 64) (r : Fin 512) (j : Fin 1280) (i : S32768x1280.Idx) (h0 : (i 0).val = t.val * 512 + r.val) (h1 : (i 1).val = j.val) :
    k0_pay1 (F := Ideal) (iblk m c 0 t) (iblk m c 1 t) (iblk m c 2 t) (iblk m c 3 t) (iblk m c 4 t) (ix2 r j)
      = Reference4Ideal.Qkv.flat (acts m c) (gain m c) (scale m c) (shift m c) (weight m c) i := by
  rw [show i = ix2 ⟨t.val * 512 + r.val, by omega⟩ j from (ix2_eta i).symm.trans (congrArg₂ ix2 (Fin.ext h0) (Fin.ext h1)), Reference4Ideal.Qkv.flat_apply, product m c t ht]

/-- The output array after the kernel's run. -/
theorem flat_eq (c : Dev nD) : (dats m 0 c).arrAt 5 cfg0.N = Reference4Ideal.Qkv.flat (acts m c) (gain m c) (scale m c) (shift m c) (weight m c) := by
  refine (dats m 0 c).arrAt_eq_of_covers 5 _ (by decide +kernel) fun t _ y => ?_
  have ht : t.val < 64 := t.isLt
  obtain ⟨p0, p1⟩ := place t y
  have key := flat_at m c t ht
  blk_simp
  rw [after0_5]; unfold out0_5; frame_out
  obtain ⟨r, j, rfl⟩ : ∃ (r : Fin 512) (j : Fin 1280), y = ix2 r j := ⟨y 0, y 1, (ix2_eta y).symm⟩
  exact key r j _ p0 p1

end Cert.Kernel4Ideal.Qkv

end
-- ==== Proof.Qkv.lean ====
/- The claims of the projection to queries, keys and values: frames, and the equality of kernel and reference on the extended reals. -/
module

public import proofs.«01_k».proof.Defs
public import proofs.«01_k».proof.Proof.Gen.Kernel4.Frame
public import proofs.«01_k».proof.Proof.QkvOutput

@[expose] public section

set_option maxRecDepth 16384

noncomputable section

namespace Cert.Qkv

open Idealize.ShloMosaic Idealize.SL.Sem

instance : Cert.Kernel4.Facts := Cert.Kernel4.Gen.facts
instance : Cert.Kernel4Ideal.Facts := Cert.Kernel4Ideal.Gen.facts
instance : Cert.Reference4Ideal.Facts := Cert.Reference4Ideal.Gen.facts

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h =>
    ⟨fun c => (h c).2, sem_eq_zero_of_no_sems (by decide) r.2⟩) (Cert.Reference4Ideal.Value.run (F := Ideal) m ρ)

/-- No operation is rewritten. -/
theorem no_names : Cert.preserves_Kernel4_Kernel4Ideal := trivial

theorem same : Cert.algebraic_Kernel4Ideal_Reference4Ideal := by
  intro m ρ m' ρ' _ hagree
  refine ⟨fun c => Cert.Reference4Ideal.Qkv.flat (Cert.Kernel4Ideal.Qkv.acts m c) (Cert.Kernel4Ideal.Qkv.gain m c) (Cert.Kernel4Ideal.Qkv.scale m c) (Cert.Kernel4Ideal.Qkv.shift m c) (Cert.Kernel4Ideal.Qkv.weight m c), ?_, ?_⟩
  · exact (θ_run Cert.Kernel4Ideal.defs _ _).mono (fun r h c => ⟨(h c).1.trans (Cert.Kernel4Ideal.Qkv.flat_eq m c), (h c).2⟩) (Cert.Kernel4Ideal.Value.run_blocks m ρ)
  · refine (θ_run Cert.Reference4Ideal.defs _ _).mono (fun r h c => ⟨(h c).1.trans ?_, (h c).2⟩) (Cert.Reference4Ideal.Value.run (F := Ideal) m' ρ')
    rw [(hagree c).1, (hagree c).2.1, (hagree c).2.2.1, (hagree c).2.2.2.1, (hagree c).2.2.2.2]
    rfl

end Cert.Qkv

end
-- ==== Proof.ProjectionReference.lean ====
/- The first projection's reference: the stages of its run and what they hold. -/
module

public import proofs.«01_k».proof.Proof.Gen.Reference3Ideal.Run
public import proofs.«01_k».proof.Proof.NormRow
public import Idealize.ShloMosaic.Lib.Pipeline.ValueKit

@[expose] public section

set_option maxRecDepth 16384

noncomputable section

namespace Cert.Reference3Ideal.Proj

open Cert.Reference3Ideal Cert.Reference3Ideal.Gen Idealize.ShloMosaic Idealize.ShloMosaic.TcCoe Idealize.SL.Sem

variable (X : FVec Ideal S8x4096x1024 .f32) (G : FVec Ideal S1024 .f32) (C H : FVec Ideal S8x1024 .f32) (W : FVec Ideal S1024x2816 .f32)

/-- The rows as the projection sees them. -/
def rows : FVec Ideal S8x4096x1024 .f32 :=
  addf (mulf (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
      (broadcastInDim S8x4096x1024 ![0, 1, 2] bcast_S1x1x1024_S8x4096x1024_0_1_2 (broadcastInDim S1x1x1024 ![2] bcast_S1024_S1x1x1024_2 G)))
      (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 C))))
    (broadcastInDim S8x4096x1024 ![0, 1, 2] bcast_S8x1x1024_S8x4096x1024_0_1_2 (broadcastInDim S8x1x1024 ![0, 2] bcast_S8x1024_S8x1x1024_0_2 H))

theorem rows_apply (b : Fin 8) (r : Fin 4096) (l : Fin 1024) :
    rows X G C H (ix3 b r l) = NormRow.shifted (fun k => X (ix3 b r k)) (fun k => G (ix1 k)) (fun k => C (ix2 b k)) (fun k => H (ix2 b k)) l := by
  pointwise [rows]
  rfl

/-- The projected rows. -/
def proj : FVec Ideal S8x4096x2816 .f32 :=
  Host.dotGeneral dot_S8x4096x1024_S1024x2816_S8x4096x2816_2_0_01_1_n_n none (rows X G C H) W

/-- The columns for the recurrence. -/
def first : FVec Ideal S32768x1792 .f32 :=
  shapeCast _ (extractStridedSlice S8x4096x1792 ![0, 0, 0] (proj X G C H W) slices_S8x4096x2816_S8x4096x1792_0_0_0) shapeCasts_S8x4096x1792_S32768x1792

/-- The columns for the convolution. -/
def second : FVec Ideal S32768x1024 .f32 :=
  shapeCast _ (extractStridedSlice S8x4096x1024 ![0, 0, 1792] (proj X G C H W) slices_S8x4096x2816_S8x4096x1024_0_0_1792) shapeCasts_S8x4096x1024_S32768x1024

/-- The entries of a row of the product, by its sequence and its place there. -/
def entry (r : Fin 32768) (j : Fin 2816) : EReal :=
  ∑ k, NormRow.shifted (fun k => X (ix3 ⟨r.val / 4096, by omega⟩ ⟨r.val % 4096, by omega⟩ k)) (fun k => G (ix1 k)) (fun k => C (ix2 ⟨r.val / 4096, by omega⟩ k))
    (fun k => H (ix2 ⟨r.val / 4096, by omega⟩ k)) k * W (ix2 k j)

theorem first_apply (r : Fin 32768) (j : Fin 1792) : first X G C H W (ix2 r j) = entry X G C H W r ⟨j.val, by omega⟩ := by
  pointwise [first, proj]
  simp only [rows_apply]
  rfl

theorem second_apply (r : Fin 32768) (j : Fin 1024) : second X G C H W (ix2 r j) = entry X G C H W r ⟨1792 + j.val, by omega⟩ := by
  pointwise [second, proj]
  simp only [rows_apply]
  rfl

end Cert.Reference3Ideal.Proj

end
-- ==== Proof.ProjectionOutput.lean ====
/- The first projection's kernel: what its windows hold at a grid point, and its two output arrays. -/
module

public import proofs.«01_k».proof.Proof.Gen.Kernel3Ideal.Value
public import proofs.«01_k».proof.Proof.ProjectionReference

@[expose] public section

set_option maxRecDepth 16384

noncomputable section

namespace Cert.Kernel3Ideal.Proj

open Cert.Kernel3Ideal Cert.Kernel3Ideal.Gen Idealize.ShloMosaic Idealize.ShloMosaic.TcCoe Idealize.SL.Sem

theorem pay_apply (x : FVec Ideal S512x1024 .f32) (g : FVec Ideal S1x1024 .f32) (s h : FVec Ideal S1x1x1024 .f32) (w : FVec Ideal S1024x2816 .bf16) (r : Fin 512) (j : Fin 2816) :
    k0_pay1 (F := Ideal) x g s h w (ix2 r j) = ∑ k, NormRow.shifted (fun k => x (ix2 r k)) (fun k => g (ix2 0 k)) (fun k => s (ix3 0 0 k)) (fun k => h (ix3 0 0 k)) k * w (ix2 k j) := by
  pointwise [k0_pay1]
  rfl

theorem pay_first (x : FVec Ideal S512x1024 .f32) (g : FVec Ideal S1x1024 .f32) (s h : FVec Ideal S1x1x1024 .f32) (w : FVec Ideal S1024x2816 .bf16) (r : Fin 512) (j : Fin 1792) :
    k0_pay2 (F := Ideal) x g s h w (ix2 r j) = k0_pay1 (F := Ideal) x g s h w (ix2 r ⟨j.val, by omega⟩) := by
  pointwise [k0_pay2]

theorem pay_second (x : FVec Ideal S512x1024 .f32) (g : FVec Ideal S1x1024 .f32) (s h : FVec Ideal S1x1x1024 .f32) (w : FVec Ideal S1024x2816 .bf16) (r : Fin 512) (j : Fin 1024) :
    k0_pay3 (F := Ideal) x g s h w (ix2 r j) = k0_pay1 (F := Ideal) x g s h w (ix2 r ⟨1792 + j.val, by omega⟩) := by
  pointwise [k0_pay3]

variable (m : (ℓ : Loc nD τ sig) → Buf (Elt Ideal) ℓ)

/-- Where each window's block lies at a point. -/
theorem idx : ∀ t : Fin cfg0.N, win0_0.index t = ![t.val, 0] ∧ win0_1.index t = ![0, 0] ∧ win0_2.index t = ![t.val / 8, 0, 0] ∧ win0_3.index t = ![t.val / 8, 0, 0]
    ∧ win0_4.index t = ![0, 0] ∧ win0_5.index t = ![t.val, 0] ∧ win0_6.index t = ![t.val, 0] :=
  (by decide +kernel : ∀ t : Fin grid0.N, _)

/-- The activations. -/
abbrev acts (c : Dev nD) : FVec Ideal S8x4096x1024 .f32 := m ((c.tc : Thread nD τ).loc main_arg0)
/-- The gain. -/
abbrev gain (c : Dev nD) : FVec Ideal S1024 .f32 := m ((c.tc : Thread nD τ).loc main_arg1)
/-- The scale of each sequence. -/
abbrev scale (c : Dev nD) : FVec Ideal S8x1024 .f32 := m ((c.tc : Thread nD τ).loc main_arg2)
/-- The shift of each sequence. -/
abbrev shift (c : Dev nD) : FVec Ideal S8x1024 .f32 := m ((c.tc : Thread nD τ).loc main_arg3)
/-- The weight. -/
abbrev weight (c : Dev nD) : FVec Ideal S1024x2816 .f32 := m ((c.tc : Thread nD τ).loc main_arg4)

theorem acts_entry (c : Dev nD) : V m c main_v0 = shapeCast _ (acts m c) shapeCasts_S8x4096x1024_S32768x1024 := by
  unfold V
  simp only [hostOps0]
  after_results_simp
  rfl

theorem gain_entry (c : Dev nD) : V m c main_v4 = shapeCast _ (gain m c) shapeCasts_S1024_S1x1024 := by
  unfold V
  simp only [hostOps0]
  after_results_simp
  rfl

theorem scale_entry (c : Dev nD) : V m c main_v1 = shapeCast _ (scale m c) shapeCasts_S8x1024_S8x1x1024 := by
  unfold V
  simp only [hostOps0]
  after_results_simp
  rfl

theorem shift_entry (c : Dev nD) : V m c main_v2 = shapeCast _ (shift m c) shapeCasts_S8x1024_S8x1x1024 := by
  unfold V
  simp only [hostOps0]
  after_results_simp
  rfl

theorem weight_entry (c : Dev nD) : V m c main_v3 = truncf (F := Ideal) .bf16 (weight m c) bitsLt_bf16_f32 := by
  unfold V
  simp only [hostOps0]
  after_results_simp

theorem acts_apply (c : Dev nD) (t : Fin cfg0.N) (ht : t.val < 64) (r : Fin 512) (k : Fin 1024) :
    iblk m c 0 t (ix2 r k) = acts m c (ix3 ⟨(t.val * 512 + r.val) / 4096, by omega⟩ ⟨(t.val * 512 + r.val) % 4096, by omega⟩ k) := by
  have h : iblk m c 0 t (ix2 r k) = V m c main_v0 (ix2 ⟨t.val * 512 + r.val, by omega⟩ k) := by blk_ext [iblk, idx t]
  rw [h, acts_entry]
  pointwise

theorem gain_apply (c : Dev nD) (t : Fin cfg0.N) (k : Fin 1024) : iblk m c 1 t (ix2 0 k) = gain m c (ix1 k) := by
  have h : iblk m c 1 t (ix2 0 k) = V m c main_v4 (ix2 0 k) := by blk_ext [iblk, idx t]
  rw [h, gain_entry]
  pointwise

theorem scale_apply (c : Dev nD) (t : Fin cfg0.N) (ht : t.val < 64) (r : Fin 512) (k : Fin 1024) :
    iblk m c 2 t (ix3 0 0 k) = scale m c (ix2 ⟨(t.val * 512 + r.val) / 4096, by omega⟩ k) := by
  have h : iblk m c 2 t (ix3 0 0 k) = V m c main_v1 (ix3 ⟨t.val / 8, by omega⟩ 0 k) := by blk_ext [iblk, idx t]
  rw [h, scale_entry, show (⟨(t.val * 512 + r.val) / 4096, by omega⟩ : Fin 8) = ⟨t.val / 8, by omega⟩ from Fin.ext (by simp only; omega)]
  pointwise

theorem shift_apply (c : Dev nD) (t : Fin cfg0.N) (ht : t.val < 64) (r : Fin 512) (k : Fin 1024) :
    iblk m c 3 t (ix3 0 0 k) = shift m c (ix2 ⟨(t.val * 512 + r.val) / 4096, by omega⟩ k) := by
  have h : iblk m c 3 t (ix3 0 0 k) = V m c main_v2 (ix3 ⟨t.val / 8, by omega⟩ 0 k) := by blk_ext [iblk, idx t]
  rw [h, shift_entry, show (⟨(t.val * 512 + r.val) / 4096, by omega⟩ : Fin 8) = ⟨t.val / 8, by omega⟩ from Fin.ext (by simp only; omega)]
  pointwise

theorem weight_apply (c : Dev nD) (t : Fin cfg0.N) (k : Fin 1024) (j : Fin 2816) : iblk m c 4 t (ix2 k j) = weight m c (ix2 k j) := by
  have h : iblk m c 4 t (ix2 k j) = V m c main_v3 (ix2 k j) := by blk_ext [iblk, idx t]
  rw [h, weight_entry]
  pointwise

/-- A row of a point's product is the reference's. -/
theorem product (c : Dev nD) (t : Fin cfg0.N) (ht : t.val < 64) (r : Fin 512) (j : Fin 2816) :
    k0_pay1 (F := Ideal) (iblk m c 0 t) (iblk m c 1 t) (iblk m c 2 t) (iblk m c 3 t) (iblk m c 4 t) (ix2 r j)
      = Reference3Ideal.Proj.entry (acts m c) (gain m c) (scale m c) (shift m c) (weight m c) ⟨t.val * 512 + r.val, by omega⟩ j := by
  rw [pay_apply]
  unfold Reference3Ideal.Proj.entry
  simp only [acts_apply m c t ht, gain_apply m c t, scale_apply m c t ht r, shift_apply m c t ht r, weight_apply m c t]

/-- Where a point's block lies in the first output array. -/
theorem place_first (t : Fin cfg0.N) (y : S512x1792.Idx) :
    ((((View.whole main_v5_0).slice (win0_5.rect t)).emb y) 0).val = t.val * 512 + (y 0).val ∧ ((((View.whole main_v5_0).slice (win0_5.rect t)).emb y) 1).val = (y 1).val := by
  constructor <;> blk_simp [idx t]

/-- Where a point's block lies in the second output array. -/
theorem place_second (t : Fin cfg0.N) (y : S512x1024.Idx) :
    ((((View.whole main_v5_1).slice (win0_6.rect t)).emb y) 0).val = t.val * 512 + (y 0).val ∧ ((((View.whole main_v5_1).slice (win0_6.rect t)).emb y) 1).val = (y 1).val := by
  constructor <;> blk_simp [idx t]

theorem first_at (c : Dev nD) (t : Fin cfg0.N) (ht : t.val < 64) (r : Fin 512) (j : Fin 1792) (i : S32768x1792.Idx) (h0 : (i 0).val = t.val * 512 + r.val) (h1 : (i 1).val = j.val) :
    k0_pay2 (F := Ideal) (iblk m c 0 t) (iblk m c 1 t) (iblk m c 2 t) (iblk m c 3 t) (iblk m c 4 t) (ix2 r j)
      = Reference3Ideal.Proj.first (acts m c) (gain m c) (scale m c) (shift m c) (weight m c) i := by
  rw [show i = ix2 ⟨t.val * 512 + r.val, by omega⟩ j from (ix2_eta i).symm.trans (congrArg₂ ix2 (Fin.ext h0) (Fin.ext h1)), Reference3Ideal.Proj.first_apply, pay_first, product m c t ht]

theorem second_at (c : Dev nD) (t : Fin cfg0.N) (ht : t.val < 64) (r : Fin 512) (j : Fin 1024) (i : S32768x1024.Idx) (h0 : (i 0).val = t.val * 512 + r.val) (h1 : (i 1).val = j.val) :
    k0_pay3 (F := Ideal) (iblk m c 0 t) (iblk m c 1 t) (iblk m c 2 t) (iblk m c 3 t) (iblk m c 4 t) (ix2 r j)
      = Reference3Ideal.Proj.second (acts m c) (gain m c) (scale m c) (shift m c) (weight m c) i := by
  rw [show i = ix2 ⟨t.val * 512 + r.val, by omega⟩ j from (ix2_eta i).symm.trans (congrArg₂ ix2 (Fin.ext h0) (Fin.ext h1)), Reference3Ideal.Proj.second_apply, pay_second, product m c t ht]

/-- The first output array after the kernel's run. -/
theorem first_eq (c : Dev nD) : (dats m 0 c).arrAt 5 cfg0.N = Reference3Ideal.Proj.first (acts m c) (gain m c) (scale m c) (shift m c) (weight m c) := by
  refine (dats m 0 c).arrAt_eq_of_covers 5 _ (by decide +kernel) fun t _ y => ?_
  have ht : t.val < 64 := t.isLt
  obtain ⟨p0, p1⟩ := place_first t y
  have key := first_at m c t ht
  blk_simp
  rw [after0_5]; unfold out0_5; frame_out
  obtain ⟨r, j, rfl⟩ : ∃ (r : Fin 512) (j : Fin 1792), y = ix2 r j := ⟨y 0, y 1, (ix2_eta y).symm⟩
  exact key r j _ p0 p1

/-- The second output array after the kernel's run. -/
theorem second_eq (c : Dev nD) : (dats m 0 c).arrAt 6 cfg0.N = Reference3Ideal.Proj.second (acts m c) (gain m c) (scale m c) (shift m c) (weight m c) := by
  refine (dats m 0 c).arrAt_eq_of_covers 6 _ (by decide +kernel) fun t _ y => ?_
  have ht : t.val < 64 := t.isLt
  obtain ⟨p0, p1⟩ := place_second t y
  have key := second_at m c t ht
  blk_simp
  rw [after0_6]; unfold out0_6; frame_out
  obtain ⟨r, j, rfl⟩ : ∃ (r : Fin 512) (j : Fin 1024), y = ix2 r j := ⟨y 0, y 1, (ix2_eta y).symm⟩
  exact key r j _ p0 p1

end Cert.Kernel3Ideal.Proj

end
-- ==== Proof.Projection.lean ====
/- The claims of the first projection of the recurrent layers: frames, and the equality of kernel and reference on the extended reals. -/
module

public import proofs.«01_k».proof.Defs
public import proofs.«01_k».proof.Proof.Gen.Kernel3.Frame
public import proofs.«01_k».proof.Proof.ProjectionOutput

@[expose] public section

set_option maxRecDepth 16384

noncomputable section

namespace Cert.Projection

open Idealize.ShloMosaic Idealize.SL.Sem

instance : Cert.Kernel3.Facts := Cert.Kernel3.Gen.facts
instance : Cert.Kernel3Ideal.Facts := Cert.Kernel3Ideal.Gen.facts
instance : Cert.Reference3Ideal.Facts := Cert.Reference3Ideal.Gen.facts

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h =>
    ⟨fun c => (h c).2.2, sem_eq_zero_of_no_sems (by decide) r.2⟩) (Cert.Reference3Ideal.Value.run (F := Ideal) m ρ)

/-- No operation is rewritten. -/
theorem no_names : Cert.preserves_Kernel3_Kernel3Ideal := trivial

theorem same : Cert.algebraic_Kernel3Ideal_Reference3Ideal := by
  intro m ρ m' ρ' _ hagree
  refine ⟨fun c => Cert.Reference3Ideal.Proj.first (Cert.Kernel3Ideal.Proj.acts m c) (Cert.Kernel3Ideal.Proj.gain m c) (Cert.Kernel3Ideal.Proj.scale m c) (Cert.Kernel3Ideal.Proj.shift m c) (Cert.Kernel3Ideal.Proj.weight m c), fun c => Cert.Reference3Ideal.Proj.second (Cert.Kernel3Ideal.Proj.acts m c) (Cert.Kernel3Ideal.Proj.gain m c) (Cert.Kernel3Ideal.Proj.scale m c) (Cert.Kernel3Ideal.Proj.shift m c) (Cert.Kernel3Ideal.Proj.weight m c), ?_, ?_⟩
  · exact (θ_run Cert.Kernel3Ideal.defs _ _).mono (fun r h c => ⟨(h c).1.trans (Cert.Kernel3Ideal.Proj.first_eq m c), (h c).2.1.trans (Cert.Kernel3Ideal.Proj.second_eq m c), (h c).2.2⟩) (Cert.Kernel3Ideal.Value.run_blocks m ρ)
  · refine (θ_run Cert.Reference3Ideal.defs _ _).mono (fun r h c => ⟨(h c).1.trans ?_, (h c).2.1.trans ?_, (h c).2.2⟩) (Cert.Reference3Ideal.Value.run (F := Ideal) m' ρ')
    all_goals
      rw [(hagree c).1, (hagree c).2.1, (hagree c).2.2.1, (hagree c).2.2.2.1, (hagree c).2.2.2.2]
      rfl

end Cert.Projection

end
-- ==== Proof.lean ====
/- The proof of the certificate's claim. -/
module

public import proofs.«01_k».proof.Defs
public import proofs.«01_k».proof.Proof.Attention
public import proofs.«01_k».proof.Proof.Experts
public import proofs.«01_k».proof.Proof.Mod
public import proofs.«01_k».proof.Proof.Mix
public import proofs.«01_k».proof.Proof.Qkv
public import proofs.«01_k».proof.Proof.Projection

@[expose] public section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_experts_in_range.Gen.facts,
    Cert.Attention.frame_kernel, Cert.Attention.frame_ideal, Cert.Attention.frame_reference,
    Cert.Experts.frame_kernel, Cert.Experts.frame_ideal, Cert.Experts.frame_reference, Cert.Experts.frame_reference_in_range,
    Cert.Projection.frame_kernel, Cert.Projection.frame_ideal, Cert.Projection.frame_reference,
    Cert.Qkv.frame_kernel, Cert.Qkv.frame_ideal, Cert.Qkv.frame_reference,
    Cert.Mix.frame_kernel, Cert.Mix.frame_ideal, Cert.Mix.frame_reference,
    Cert.Mod.frame_kernel, Cert.Mod.frame_ideal, Cert.Mod.frame_reference,
    Cert.Attention.names_mask, Cert.Attention.same, Cert.Experts.no_names, Cert.Experts.same, Cert.Projection.no_names, Cert.Projection.same,
    Cert.Qkv.no_names, Cert.Qkv.same, Cert.Mix.no_names, Cert.Mix.same, Cert.Mod.no_names, Cert.Mod.same⟩

end Cert.Proof
